-- ==== Defs.lean ====
def Pre_Kernel (m : (ℓ : Loc Cert.Kernel.nD Cert.Kernel.τ Cert.Kernel.sig) → Buf (Elt Bits) ℓ) : Prop :=
  True

def Pre_Kernel_iota_table [hPre_iota_table : Cert.Pre_iota_table.Facts] (m : (ℓ : Loc Cert.Kernel.nD Cert.Kernel.τ Cert.Kernel.sig) → Buf (Elt Bits) ℓ) : Prop :=
  ∀ c : Dev Cert.Kernel.nD,
    (Cert.Pre_iota_table.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal (m : (ℓ : Loc Cert.KernelIdeal.nD Cert.KernelIdeal.τ Cert.KernelIdeal.sig) → Buf (Elt Ideal) ℓ) : Prop :=
  True

def Pre_KernelIdeal_iota_table [hPre_iota_table : Cert.Pre_iota_table.Facts] (m : (ℓ : Loc Cert.KernelIdeal.nD Cert.KernelIdeal.τ Cert.KernelIdeal.sig) → Buf (Elt Ideal) ℓ) : Prop :=
  ∀ c : Dev Cert.KernelIdeal.nD,
    (Cert.Pre_iota_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_iota_table [hPre_iota_table : Cert.Pre_iota_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_iota_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Reference [hPre_iota_table : Cert.Pre_iota_table.Facts] (m : (ℓ : Loc Cert.Reference.nD Cert.Reference.τ Cert.Reference.sig) → Buf (Elt Bits) ℓ) : Prop :=
  ∀ c : Dev Cert.Reference.nD,
    (Cert.Pre_iota_table.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_Kernel_pre_iota_table [hKernel : Cert.Kernel.Facts] [hPre_iota_table : Cert.Pre_iota_table.Facts] : Prop :=
  ∀ (m : (ℓ : Loc Cert.Kernel.nD Cert.Kernel.τ Cert.Kernel.sig) → Buf (Elt Bits) ℓ) (g : Dev Cert.Kernel.nD → PrngReg), Pre_Kernel_iota_table m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_iota_table [hKernelIdeal : Cert.KernelIdeal.Facts] [hPre_iota_table : Cert.Pre_iota_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_iota_table m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_iota_table [hReferenceIdeal : Cert.ReferenceIdeal.Facts] [hPre_iota_table : Cert.Pre_iota_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_iota_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Reference [hReference : Cert.Reference.Facts] [hPre_iota_table : Cert.Pre_iota_table.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def preserves_Kernel_KernelIdeal : Prop :=
  True

def bitexact_Kernel_Reference_pre_iota_table [hKernel : Cert.Kernel.Facts] [hReference : Cert.Reference.Facts] [hPre_iota_table : Cert.Pre_iota_table.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_iota_table m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)) →
    ∃ (v0 : (c : Dev Cert.Kernel.nD) → Buf (Elt Bits) ((c.tc : Thread Cert.Kernel.nD Cert.Kernel.τ).loc Cert.Kernel.main_v2)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v14) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2))

def algebraic_KernelIdeal_ReferenceIdeal_pre_iota_table [hKernelIdeal : Cert.KernelIdeal.Facts] [hReferenceIdeal : Cert.ReferenceIdeal.Facts] [hPre_iota_table : Cert.Pre_iota_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_iota_table m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hReference : Cert.Reference.Facts) (hPre_iota_table : Cert.Pre_iota_table.Facts),
    quiescent_Kernel (hKernel := hKernel)
    ∧ quiescent_Kernel_pre_iota_table (hKernel := hKernel) (hPre_iota_table := hPre_iota_table)
    ∧ quiescent_KernelIdeal (hKernelIdeal := hKernelIdeal)
    ∧ quiescent_KernelIdeal_pre_iota_table (hKernelIdeal := hKernelIdeal) (hPre_iota_table := hPre_iota_table)
    ∧ quiescent_ReferenceIdeal (hReferenceIdeal := hReferenceIdeal)
    ∧ quiescent_ReferenceIdeal_pre_iota_table (hReferenceIdeal := hReferenceIdeal) (hPre_iota_table := hPre_iota_table)
    ∧ quiescent_Reference (hReference := hReference) (hPre_iota_table := hPre_iota_table)
    ∧ preserves_Kernel_KernelIdeal
    ∧ bitexact_Kernel_Reference_pre_iota_table (hKernel := hKernel) (hReference := hReference) (hPre_iota_table := hPre_iota_table)
    ∧ algebraic_KernelIdeal_ReferenceIdeal_pre_iota_table (hKernelIdeal := hKernelIdeal) (hReferenceIdeal := hReferenceIdeal) (hPre_iota_table := hPre_iota_table)
-- ==== Pre_iota_table.lean ====
abbrev S16384x200 : Shape := ⟨2, ![16384, 200]⟩
abbrev S1000 : Shape := ⟨1, ![1000]⟩
abbrev S_ : Shape := ⟨0, ![]⟩

class Facts : Prop where
  reducesTo_S1000_S_d0 : S1000.ReducesTo [0] S_
  h_S_ : 0 < S_.numel

variable [Facts]

def fn {F : FTy → Type} [FloatOps F] (main_arg0 : IVec S16384x200 32) (main_arg1 : IVec S1000 32) (main_arg2 : IVec S1000 32) : IVec S_ 1 :=
  let main_v0 : IVec S1000 32 := iotaInDim S1000 32 0
  let main_v1 : IVec S1000 1 := cmpi .eq main_arg1 main_v0
  let main_c : IVec S_ 1 := constantI S_ 1 1#1
  let main_v2 : IVec S_ 1 := (fun x v => Host.reduce IntOp.andi x v reducesTo_S1000_S_d0 h_S_) main_v1 main_c
  let main_v3 : IVec S1000 1 := cmpi .eq main_arg2 main_v0
  let main_c_0 : IVec S_ 1 := constantI S_ 1 1#1
  let main_v4 : IVec S_ 1 := (fun x v => Host.reduce IntOp.andi x v reducesTo_S1000_S_d0 h_S_) main_v3 main_c_0
  let main_v5 : IVec S_ 1 := andi main_v2 main_v4
  main_v5
-- ==== Kernel.lean ====
abbrev S16384x200 : Shape := ⟨2, ![16384, 200]⟩
abbrev S1000 : Shape := ⟨1, ![1000]⟩
abbrev S200x16384 : Shape := ⟨2, ![200, 16384]⟩
abbrev S2x40x512 : Shape := ⟨3, ![2, 40, 512]⟩
abbrev S2 : Shape := ⟨1, ![2]⟩
abbrev S1x40x512 : Shape := ⟨3, ![1, 40, 512]⟩
abbrev S40x512 : Shape := ⟨2, ![40, 512]⟩
abbrev S1 : Shape := ⟨1, ![1]⟩
abbrev S_ : Shape := ⟨0, ![]⟩
abbrev S16 : Shape := ⟨1, ![16]⟩
abbrev S1x16 : Shape := ⟨2, ![1, 16]⟩

abbrev nBuf : Table → Nat
  | .hbm => 6
  | .local .scVector .vmem => 2
  | _ => 0

abbrev bufTy : (tb : Table) → Fin (nBuf tb) → BufTy
  | .hbm, ⟨0, _⟩ => ⟨S16384x200, .i32⟩
  | .hbm, ⟨1, _⟩ => ⟨S1000, .i32⟩
  | .hbm, ⟨2, _⟩ => ⟨S1000, .i32⟩
  | .hbm, ⟨3, _⟩ => ⟨S200x16384, .i32⟩
  | .hbm, ⟨4, _⟩ => ⟨S200x16384, .i32⟩
  | .hbm, ⟨5, _⟩ => ⟨S16384x200, .i32⟩
  | .local .scVector .vmem, ⟨0, _⟩ => ⟨S2x40x512, .i32⟩
  | .local .scVector .vmem, ⟨1, _⟩ => ⟨S2x40x512, .i32⟩
  | _, _ => ⟨S16384x200, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v0_scv : Ref sig .scVector := ⟨.hbm, 3, rfl⟩
abbrev main_v1_scv : Ref sig .scVector := ⟨.hbm, 4, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_31_r0 : BitVec 32 := 0#32
  let c2_i32_r0 : BitVec 32 := 2#32
  let v33_r0 : BitVec 32 := Scalar.remui c0_i32_31_r0 c2_i32_r0
  let c0_i32_32_r0 : BitVec 32 := 0#32
  let c0_i32_33_r0 : BitVec 32 := 0#32
  ![v33_r0.toNat, 0, 0]
def k0_off2 (i : grid0.Coords) : Fin 2 → Nat :=
  let c0_i32_34_r0 : BitVec 32 := 0#32
  let c512_i32_r0 : BitVec 32 := 512#32
  let c0_i32_2_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v7_r0 : BitVec 32 := Scalar.addi c0_i32_2_r0 v4
  let v34_r0 : BitVec 32 := Scalar.muli c512_i32_r0 v7_r0
  ![0, v34_r0.toNat]
def k0_off3 : Fin 1 → Nat :=
  let c0_i32_31_r0 : BitVec 32 := 0#32
  let c2_i32_r0 : BitVec 32 := 2#32
  let v33_r0 : BitVec 32 := Scalar.remui c0_i32_31_r0 c2_i32_r0
  ![v33_r0.toNat]
@[reducible] def k0_t1_loop : Scf.Loop 32 :=
  let c0_i32_45_r0 : BitVec 32 := 0#32
  let c5_i32_46_r0 : BitVec 32 := 5#32
  let v44_r0 : BitVec 32 := Scalar.addi c0_i32_45_r0 c5_i32_46_r0
  let c1_i32_47_r0 : BitVec 32 := 1#32
  ⟨c0_i32_45_r0, v44_r0, c1_i32_47_r0⟩
def k0_off4 (arg5_r0 : BitVec 32) : Fin 3 → Nat :=
  let c2_i32_167_r0 : BitVec 32 := 2#32
  let v210_r0 : BitVec 32 := Scalar.remui arg5_r0 c2_i32_167_r0
  let c0_i32_170_r0 : BitVec 32 := 0#32
  let c0_i32_171_r0 : BitVec 32 := 0#32
  ![v210_r0.toNat, 0, 0]
def k0_cond1 (i : grid0.Coords) (k0_t1 : Fin k0_t1_loop.trips) (arg9_r0 : BitVec 32) : BitVec 1 :=
  let c0_i32_96_r0 : BitVec 32 := 0#32
  let v96_r0 : BitVec 32 := Scalar.addi arg9_r0 c0_i32_96_r0
  let true_108_r0 : BitVec 1 := 1#1
  let c1_i32_110_r0 : BitVec 32 := 1#32
  let c0_i32_109_r0 : BitVec 32 := 0#32
  let v107_r0 : BitVec 32 := Scalar.select true_108_r0 c1_i32_110_r0 c0_i32_109_r0
  let c1_i32_111_r0 : BitVec 32 := 1#32
  let v108_r0 : BitVec 1 := Scalar.cmpi .eq v107_r0 c1_i32_111_r0
  let c1_i32_113_r0 : BitVec 32 := 1#32
  let v110_r0 : BitVec 32 := Scalar.addi arg9_r0 c1_i32_113_r0
  let v111_r0 : BitVec 32 := Scalar.select v108_r0 v110_r0 arg9_r0
  let c5_i32_114_r0 : BitVec 32 := 5#32
  let v112_r0 : BitVec 1 := Scalar.cmpi .eq v111_r0 c5_i32_114_r0
  let c0_i32_115_r0 : BitVec 32 := 0#32
  let v113_r0 : BitVec 32 := Scalar.select v112_r0 c0_i32_115_r0 v111_r0
  let c0_i32_116_r0 : BitVec 32 := 0#32
  let v114_r0 : BitVec 32 := Scalar.addi v113_r0 c0_i32_116_r0
  let v125_r0 : BitVec 1 := Scalar.cmpi .ne v96_r0 v114_r0
  let c0_i32_97_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v97_r0 : BitVec 32 := Scalar.addi c0_i32_97_r0 v4
  let c0_i32_117_r0 : BitVec 32 := 0#32
  let v115_r0 : BitVec 32 := Scalar.addi c0_i32_117_r0 v4
  let v126_r0 : BitVec 1 := Scalar.cmpi .ne v97_r0 v115_r0
  let v127_r0 : BitVec 1 := Scalar.ori v125_r0 v126_r0
  let c0_i32_45_r0 : BitVec 32 := 0#32
  let c1_i32_47_r0 : BitVec 32 := 1#32
  let arg4_r0 : BitVec 32 := Scf.iv c0_i32_45_r0 c1_i32_47_r0 k0_t1
  let c4_i32_128_r0 : BitVec 32 := 4#32
  let v128_r0 : BitVec 1 := Scalar.cmpi .sge arg4_r0 c4_i32_128_r0
  let true_129_r0 : BitVec 1 := 1#1
  let v129_r0 : BitVec 1 := Scalar.xori v128_r0 true_129_r0
  let v130_r0 : BitVec 1 := Scalar.andi v127_r0 v129_r0
  let true_130_r0 : BitVec 1 := 1#1
  let v131_r0 : BitVec 1 := Scalar.andi v130_r0 true_130_r0
  let v132_r0 : BitVec 32 := Scalar.extui v131_r0
  let c0_i32_131_r0 : BitVec 32 := 0#32
  let v133_r0 : BitVec 1 := Scalar.cmpi .ne v132_r0 c0_i32_131_r0
  v133_r0

def k0_off5 (i : grid0.Coords) (arg9_r0 : BitVec 32) : Fin 2 → Nat :=
  let c40_i32_168_r0 : BitVec 32 := 40#32
  let true_108_r0 : BitVec 1 := 1#1
  let c1_i32_110_r0 : BitVec 32 := 1#32
  let c0_i32_109_r0 : BitVec 32 := 0#32
  let v107_r0 : BitVec 32 := Scalar.select true_108_r0 c1_i32_110_r0 c0_i32_109_r0
  let c1_i32_111_r0 : BitVec 32 := 1#32
  let v108_r0 : BitVec 1 := Scalar.cmpi .eq v107_r0 c1_i32_111_r0
  let c1_i32_113_r0 : BitVec 32 := 1#32
  let v110_r0 : BitVec 32 := Scalar.addi arg9_r0 c1_i32_113_r0
  let v111_r0 : BitVec 32 := Scalar.select v108_r0 v110_r0 arg9_r0
  let c5_i32_114_r0 : BitVec 32 := 5#32
  let v112_r0 : BitVec 1 := Scalar.cmpi .eq v111_r0 c5_i32_114_r0
  let c0_i32_115_r0 : BitVec 32 := 0#32
  let v113_r0 : BitVec 32 := Scalar.select v112_r0 c0_i32_115_r0 v111_r0
  let c0_i32_116_r0 : BitVec 32 := 0#32
  let v114_r0 : BitVec 32 := Scalar.addi v113_r0 c0_i32_116_r0
  let v211_r0 : BitVec 32 := Scalar.muli c40_i32_168_r0 v114_r0
  let c512_i32_169_r0 : BitVec 32 := 512#32
  let c0_i32_117_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v115_r0 : BitVec 32 := Scalar.addi c0_i32_117_r0 v4
  let v212_r0 : BitVec 32 := Scalar.muli c512_i32_169_r0 v115_r0
  ![v211_r0.toNat, v212_r0.toNat]
def k0_off6 (arg5_r0 : BitVec 32) : Fin 1 → Nat :=
  let c2_i32_167_r0 : BitVec 32 := 2#32
  let v210_r0 : BitVec 32 := Scalar.remui arg5_r0 c2_i32_167_r0
  ![v210_r0.toNat]
def k0_off7 (arg6_r0 : BitVec 32) : Fin 3 → Nat :=
  let c2_i32_169_r0 : BitVec 32 := 2#32
  let v212_r0 : BitVec 32 := Scalar.remui arg6_r0 c2_i32_169_r0
  let c0_i32_170_r0 : BitVec 32 := 0#32
  let c0_i32_171_r0 : BitVec 32 := 0#32
  ![v212_r0.toNat, 0, 0]
def k0_cond2 (i : grid0.Coords) (k0_t1 : Fin k0_t1_loop.trips) (arg9_r0 : BitVec 32) : BitVec 1 :=
  let c0_i32_96_r0 : BitVec 32 := 0#32
  let v96_r0 : BitVec 32 := Scalar.addi arg9_r0 c0_i32_96_r0
  let true_98_r0 : BitVec 1 := 1#1
  let c_m1_i32_100_r0 : BitVec 32 := 4294967295#32
  let c0_i32_99_r0 : BitVec 32 := 0#32
  let v98_r0 : BitVec 32 := Scalar.select true_98_r0 c_m1_i32_100_r0 c0_i32_99_r0
  let c_m1_i32_101_r0 : BitVec 32 := 4294967295#32
  let v99_r0 : BitVec 1 := Scalar.cmpi .eq v98_r0 c_m1_i32_101_r0
  let c1_i32_103_r0 : BitVec 32 := 1#32
  let v101_r0 : BitVec 32 := Scalar.subi arg9_r0 c1_i32_103_r0
  let v102_r0 : BitVec 32 := Scalar.select v99_r0 v101_r0 arg9_r0
  let c_m1_i32_104_r0 : BitVec 32 := 4294967295#32
  let v103_r0 : BitVec 1 := Scalar.cmpi .eq v102_r0 c_m1_i32_104_r0
  let c4_i32_105_r0 : BitVec 32 := 4#32
  let v104_r0 : BitVec 32 := Scalar.select v103_r0 c4_i32_105_r0 v102_r0
  let c0_i32_106_r0 : BitVec 32 := 0#32
  let v105_r0 : BitVec 32 := Scalar.addi v104_r0 c0_i32_106_r0
  let v143_r0 : BitVec 1 := Scalar.cmpi .ne v96_r0 v105_r0
  let c0_i32_97_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v97_r0 : BitVec 32 := Scalar.addi c0_i32_97_r0 v4
  let c0_i32_107_r0 : BitVec 32 := 0#32
  let v106_r0 : BitVec 32 := Scalar.addi c0_i32_107_r0 v4
  let v144_r0 : BitVec 1 := Scalar.cmpi .ne v97_r0 v106_r0
  let v145_r0 : BitVec 1 := Scalar.ori v143_r0 v144_r0
  let c0_i32_45_r0 : BitVec 32 := 0#32
  let c1_i32_47_r0 : BitVec 32 := 1#32
  let arg4_r0 : BitVec 32 := Scf.iv c0_i32_45_r0 c1_i32_47_r0 k0_t1
  let c0_i32_94_r0 : BitVec 32 := 0#32
  let v94_r0 : BitVec 1 := Scalar.cmpi .eq arg4_r0 c0_i32_94_r0
  let v146_r0 : BitVec 1 := Scalar.ori v145_r0 v94_r0
  let c0_i32_136_r0 : BitVec 32 := 0#32
  let v147_r0 : BitVec 1 := Scalar.cmpi .sge arg4_r0 c0_i32_136_r0
  let v148_r0 : BitVec 1 := Scalar.andi v146_r0 v147_r0
  let v149_r0 : BitVec 32 := Scalar.extui v148_r0
  let c0_i32_137_r0 : BitVec 32 := 0#32
  let v150_r0 : BitVec 1 := Scalar.cmpi .ne v149_r0 c0_i32_137_r0
  v150_r0

def k0_off8 (i : grid0.Coords) (arg9_r0 : BitVec 32) : Fin 2 → Nat :=
  let c40_i32_167_r0 : BitVec 32 := 40#32
  let c0_i32_96_r0 : BitVec 32 := 0#32
  let v96_r0 : BitVec 32 := Scalar.addi arg9_r0 c0_i32_96_r0
  let v210_r0 : BitVec 32 := Scalar.muli c40_i32_167_r0 v96_r0
  let c512_i32_168_r0 : BitVec 32 := 512#32
  let c0_i32_97_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v97_r0 : BitVec 32 := Scalar.addi c0_i32_97_r0 v4
  let v211_r0 : BitVec 32 := Scalar.muli c512_i32_168_r0 v97_r0
  ![v210_r0.toNat, v211_r0.toNat]
def k0_off9 (arg6_r0 : BitVec 32) : Fin 1 → Nat :=
  let c2_i32_169_r0 : BitVec 32 := 2#32
  let v212_r0 : BitVec 32 := Scalar.remui arg6_r0 c2_i32_169_r0
  ![v212_r0.toNat]
@[reducible] def k0_t2_loop : Scf.Loop 32 :=
  let c0_i32_142_r0 : BitVec 32 := 0#32
  let c40_i32_143_r0 : BitVec 32 := 40#32
  let v162_r0 : BitVec 32 := Scalar.addi c0_i32_142_r0 c40_i32_143_r0
  let c1_i32_144_r0 : BitVec 32 := 1#32
  ⟨c0_i32_142_r0, v162_r0, c1_i32_144_r0⟩
@[reducible] def k0_t3_loop : Scf.Loop 32 :=
  let c0_i32_169_r0 : BitVec 32 := 0#32
  let c2_i32_170_r0 : BitVec 32 := 2#32
  let v212_r0 : BitVec 32 := Scalar.addi c0_i32_169_r0 c2_i32_170_r0
  let c1_i32_171_r0 : BitVec 32 := 1#32
  ⟨c0_i32_169_r0, v212_r0, c1_i32_171_r0⟩
def k0_off10 (arg6_r0 : BitVec 32) : Fin 3 → Nat :=
  let c2_i32_140_r0 : BitVec 32 := 2#32
  let v159_r0 : BitVec 32 := Scalar.remui arg6_r0 c2_i32_140_r0
  let c0_i32_175_r0 : BitVec 32 := 0#32
  let c0_i32_176_r0 : BitVec 32 := 0#32
  ![v159_r0.toNat, 0, 0]

def k0_chk2 (arg6_r0 : BitVec 32) : Prop :=
  (∀ a, (k0_off10 arg6_r0) a + S1x40x512.size a ≤ S2x40x512.size a)
theorem k0_off10_inb : ∀ (arg6_r0 : BitVec 32) (k0_hw2 : k0_chk2 arg6_r0), ∀ a, (k0_off10 arg6_r0) a + S1x40x512.size a ≤ S2x40x512.size a := fun arg6_r0 k0_hw2 => k0_hw2

def k0_off11 (k0_t2 : Fin k0_t2_loop.trips) (k0_t3 : Fin k0_t3_loop.trips) (c0_i32_174_r0 : BitVec 32) : Fin 2 → Nat :=
  let c0_i32_168_r0 : BitVec 32 := 0#32
  let c0_i32_142_r0 : BitVec 32 := 0#32
  let c1_i32_144_r0 : BitVec 32 := 1#32
  let arg11_r0 : BitVec 32 := Scf.iv c0_i32_142_r0 c1_i32_144_r0 k0_t2
  let c1_i32_167_r0 : BitVec 32 := 1#32
  let v210_r0 : BitVec 32 := Scalar.muli arg11_r0 c1_i32_167_r0
  let v211_r0 : BitVec 32 := Scalar.addi c0_i32_168_r0 v210_r0
  let v218_r0 : Index := Scalar.indexCast v211_r0
  let c0_i32_173_r0 : BitVec 32 := 0#32
  let c0_i32_169_r0 : BitVec 32 := 0#32
  let c1_i32_171_r0 : BitVec 32 := 1#32
  let arg12_r0 : BitVec 32 := Scf.iv c0_i32_169_r0 c1_i32_171_r0 k0_t3
  let c256_i32_r0 : BitVec 32 := 256#32
  let v213_r0 : BitVec 32 := Scalar.muli arg12_r0 c256_i32_r0
  let v214_r0 : BitVec 32 := Scalar.addi c0_i32_173_r0 v213_r0
  let v215_r0 : BitVec 32 := Scalar.addi v214_r0 c0_i32_174_r0
  let v219_r0 : Index := Scalar.indexCast v215_r0
  ![v218_r0.toNat, v219_r0.toNat]
def k0_off12 (arg7_r0 : BitVec 32) : Fin 3 → Nat :=
  let c2_i32_141_r0 : BitVec 32 := 2#32
  let v160_r0 : BitVec 32 := Scalar.remui arg7_r0 c2_i32_141_r0
  let c0_i32_209_r0 : BitVec 32 := 0#32
  let c0_i32_210_r0 : BitVec 32 := 0#32
  ![v160_r0.toNat, 0, 0]

def k0_chk3 (arg7_r0 : BitVec 32) : Prop :=
  (∀ a, (k0_off12 arg7_r0) a + S1x40x512.size a ≤ S2x40x512.size a)
theorem k0_off12_inb : ∀ (arg7_r0 : BitVec 32) (k0_hw3 : k0_chk3 arg7_r0), ∀ a, (k0_off12 arg7_r0) a + S1x40x512.size a ≤ S2x40x512.size a := fun arg7_r0 k0_hw3 => k0_hw3

def k0_off13 (k0_t2 : Fin k0_t2_loop.trips) (k0_t3 : Fin k0_t3_loop.trips) (c0_i32_208_r0 : BitVec 32) : Fin 2 → Nat :=
  let c0_i32_168_r0 : BitVec 32 := 0#32
  let c0_i32_142_r0 : BitVec 32 := 0#32
  let c1_i32_144_r0 : BitVec 32 := 1#32
  let arg11_r0 : BitVec 32 := Scf.iv c0_i32_142_r0 c1_i32_144_r0 k0_t2
  let c1_i32_167_r0 : BitVec 32 := 1#32
  let v210_r0 : BitVec 32 := Scalar.muli arg11_r0 c1_i32_167_r0
  let v211_r0 : BitVec 32 := Scalar.addi c0_i32_168_r0 v210_r0
  let v331_r0 : Index := Scalar.indexCast v211_r0
  let c0_i32_173_r0 : BitVec 32 := 0#32
  let c0_i32_169_r0 : BitVec 32 := 0#32
  let c1_i32_171_r0 : BitVec 32 := 1#32
  let arg12_r0 : BitVec 32 := Scf.iv c0_i32_169_r0 c1_i32_171_r0 k0_t3
  let c256_i32_r0 : BitVec 32 := 256#32
  let v213_r0 : BitVec 32 := Scalar.muli arg12_r0 c256_i32_r0
  let v214_r0 : BitVec 32 := Scalar.addi c0_i32_173_r0 v213_r0
  let v328_r0 : BitVec 32 := Scalar.addi v214_r0 c0_i32_208_r0
  let v332_r0 : Index := Scalar.indexCast v328_r0
  ![v331_r0.toNat, v332_r0.toNat]
def k0_off14 (arg7_r0 : BitVec 32) : Fin 3 → Nat :=
  let c2_i32_167_r0 : BitVec 32 := 2#32
  let v210_r0 : BitVec 32 := Scalar.remui arg7_r0 c2_i32_167_r0
  let c0_i32_170_r0 : BitVec 32 := 0#32
  let c0_i32_171_r0 : BitVec 32 := 0#32
  ![v210_r0.toNat, 0, 0]
def k0_cond5 (i : grid0.Coords) (k0_t1 : Fin k0_t1_loop.trips) (arg9_r0 : BitVec 32) : BitVec 1 :=
  let c0_i32_96_r0 : BitVec 32 := 0#32
  let v96_r0 : BitVec 32 := Scalar.addi arg9_r0 c0_i32_96_r0
  let true_108_r0 : BitVec 1 := 1#1
  let c1_i32_110_r0 : BitVec 32 := 1#32
  let c0_i32_109_r0 : BitVec 32 := 0#32
  let v107_r0 : BitVec 32 := Scalar.select true_108_r0 c1_i32_110_r0 c0_i32_109_r0
  let c1_i32_111_r0 : BitVec 32 := 1#32
  let v108_r0 : BitVec 1 := Scalar.cmpi .eq v107_r0 c1_i32_111_r0
  let c1_i32_113_r0 : BitVec 32 := 1#32
  let v110_r0 : BitVec 32 := Scalar.addi arg9_r0 c1_i32_113_r0
  let v111_r0 : BitVec 32 := Scalar.select v108_r0 v110_r0 arg9_r0
  let c5_i32_114_r0 : BitVec 32 := 5#32
  let v112_r0 : BitVec 1 := Scalar.cmpi .eq v111_r0 c5_i32_114_r0
  let c0_i32_115_r0 : BitVec 32 := 0#32
  let v113_r0 : BitVec 32 := Scalar.select v112_r0 c0_i32_115_r0 v111_r0
  let c0_i32_116_r0 : BitVec 32 := 0#32
  let v114_r0 : BitVec 32 := Scalar.addi v113_r0 c0_i32_116_r0
  let v170_r0 : BitVec 1 := Scalar.cmpi .ne v96_r0 v114_r0
  let c0_i32_97_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v97_r0 : BitVec 32 := Scalar.addi c0_i32_97_r0 v4
  let c0_i32_117_r0 : BitVec 32 := 0#32
  let v115_r0 : BitVec 32 := Scalar.addi c0_i32_117_r0 v4
  let v171_r0 : BitVec 1 := Scalar.cmpi .ne v97_r0 v115_r0
  let v172_r0 : BitVec 1 := Scalar.ori v170_r0 v171_r0
  let c0_i32_45_r0 : BitVec 32 := 0#32
  let c1_i32_47_r0 : BitVec 32 := 1#32
  let arg4_r0 : BitVec 32 := Scf.iv c0_i32_45_r0 c1_i32_47_r0 k0_t1
  let c4_i32_95_r0 : BitVec 32 := 4#32
  let v95_r0 : BitVec 1 := Scalar.cmpi .eq arg4_r0 c4_i32_95_r0
  let v173_r0 : BitVec 1 := Scalar.ori v172_r0 v95_r0
  let v174_r0 : BitVec 32 := Scalar.extui v173_r0
  let c0_i32_147_r0 : BitVec 32 := 0#32
  let v175_r0 : BitVec 1 := Scalar.cmpi .ne v174_r0 c0_i32_147_r0
  v175_r0

def k0_off15 (i : grid0.Coords) (arg9_r0 : BitVec 32) : Fin 2 → Nat :=
  let c40_i32_168_r0 : BitVec 32 := 40#32
  let c0_i32_96_r0 : BitVec 32 := 0#32
  let v96_r0 : BitVec 32 := Scalar.addi arg9_r0 c0_i32_96_r0
  let v211_r0 : BitVec 32 := Scalar.muli c40_i32_168_r0 v96_r0
  let c512_i32_169_r0 : BitVec 32 := 512#32
  let c0_i32_97_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v97_r0 : BitVec 32 := Scalar.addi c0_i32_97_r0 v4
  let v212_r0 : BitVec 32 := Scalar.muli c512_i32_169_r0 v97_r0
  ![v211_r0.toNat, v212_r0.toNat]
def k0_off16 (arg7_r0 : BitVec 32) : Fin 1 → Nat :=
  let c2_i32_167_r0 : BitVec 32 := 2#32
  let v210_r0 : BitVec 32 := Scalar.remui arg7_r0 c2_i32_167_r0
  ![v210_r0.toNat]
def k0_off17 (arg8_r0 : BitVec 32) : Fin 3 → Nat :=
  let c2_i32_167_r0 : BitVec 32 := 2#32
  let v210_r0 : BitVec 32 := Scalar.remui arg8_r0 c2_i32_167_r0
  let c0_i32_170_r0 : BitVec 32 := 0#32
  let c0_i32_171_r0 : BitVec 32 := 0#32
  ![v210_r0.toNat, 0, 0]
def k0_cond7 (i : grid0.Coords) (k0_t1 : Fin k0_t1_loop.trips) (arg9_r0 : BitVec 32) : BitVec 1 :=
  let c0_i32_96_r0 : BitVec 32 := 0#32
  let v96_r0 : BitVec 32 := Scalar.addi arg9_r0 c0_i32_96_r0
  let true_98_r0 : BitVec 1 := 1#1
  let c_m1_i32_100_r0 : BitVec 32 := 4294967295#32
  let c0_i32_99_r0 : BitVec 32 := 0#32
  let v98_r0 : BitVec 32 := Scalar.select true_98_r0 c_m1_i32_100_r0 c0_i32_99_r0
  let c_m1_i32_101_r0 : BitVec 32 := 4294967295#32
  let v99_r0 : BitVec 1 := Scalar.cmpi .eq v98_r0 c_m1_i32_101_r0
  let c1_i32_103_r0 : BitVec 32 := 1#32
  let v101_r0 : BitVec 32 := Scalar.subi arg9_r0 c1_i32_103_r0
  let v102_r0 : BitVec 32 := Scalar.select v99_r0 v101_r0 arg9_r0
  let c_m1_i32_104_r0 : BitVec 32 := 4294967295#32
  let v103_r0 : BitVec 1 := Scalar.cmpi .eq v102_r0 c_m1_i32_104_r0
  let c4_i32_105_r0 : BitVec 32 := 4#32
  let v104_r0 : BitVec 32 := Scalar.select v103_r0 c4_i32_105_r0 v102_r0
  let c0_i32_106_r0 : BitVec 32 := 0#32
  let v105_r0 : BitVec 32 := Scalar.addi v104_r0 c0_i32_106_r0
  let v187_r0 : BitVec 1 := Scalar.cmpi .ne v96_r0 v105_r0
  let c0_i32_97_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v97_r0 : BitVec 32 := Scalar.addi c0_i32_97_r0 v4
  let c0_i32_107_r0 : BitVec 32 := 0#32
  let v106_r0 : BitVec 32 := Scalar.addi c0_i32_107_r0 v4
  let v188_r0 : BitVec 1 := Scalar.cmpi .ne v97_r0 v106_r0
  let v189_r0 : BitVec 1 := Scalar.ori v187_r0 v188_r0
  let c0_i32_45_r0 : BitVec 32 := 0#32
  let c1_i32_47_r0 : BitVec 32 := 1#32
  let arg4_r0 : BitVec 32 := Scf.iv c0_i32_45_r0 c1_i32_47_r0 k0_t1
  let c0_i32_94_r0 : BitVec 32 := 0#32
  let v94_r0 : BitVec 1 := Scalar.cmpi .eq arg4_r0 c0_i32_94_r0
  let true_153_r0 : BitVec 1 := 1#1
  let v190_r0 : BitVec 1 := Scalar.xori v94_r0 true_153_r0
  let v191_r0 : BitVec 1 := Scalar.andi v189_r0 v190_r0
  let v192_r0 : BitVec 32 := Scalar.extui v191_r0
  let c0_i32_154_r0 : BitVec 32 := 0#32
  let v193_r0 : BitVec 1 := Scalar.cmpi .ne v192_r0 c0_i32_154_r0
  v193_r0

def k0_off18 (i : grid0.Coords) (arg9_r0 : BitVec 32) : Fin 2 → Nat :=
  let c40_i32_168_r0 : BitVec 32 := 40#32
  let true_98_r0 : BitVec 1 := 1#1
  let c_m1_i32_100_r0 : BitVec 32 := 4294967295#32
  let c0_i32_99_r0 : BitVec 32 := 0#32
  let v98_r0 : BitVec 32 := Scalar.select true_98_r0 c_m1_i32_100_r0 c0_i32_99_r0
  let c_m1_i32_101_r0 : BitVec 32 := 4294967295#32
  let v99_r0 : BitVec 1 := Scalar.cmpi .eq v98_r0 c_m1_i32_101_r0
  let c1_i32_103_r0 : BitVec 32 := 1#32
  let v101_r0 : BitVec 32 := Scalar.subi arg9_r0 c1_i32_103_r0
  let v102_r0 : BitVec 32 := Scalar.select v99_r0 v101_r0 arg9_r0
  let c_m1_i32_104_r0 : BitVec 32 := 4294967295#32
  let v103_r0 : BitVec 1 := Scalar.cmpi .eq v102_r0 c_m1_i32_104_r0
  let c4_i32_105_r0 : BitVec 32 := 4#32
  let v104_r0 : BitVec 32 := Scalar.select v103_r0 c4_i32_105_r0 v102_r0
  let c0_i32_106_r0 : BitVec 32 := 0#32
  let v105_r0 : BitVec 32 := Scalar.addi v104_r0 c0_i32_106_r0
  let v211_r0 : BitVec 32 := Scalar.muli c40_i32_168_r0 v105_r0
  let c512_i32_169_r0 : BitVec 32 := 512#32
  let c0_i32_107_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v106_r0 : BitVec 32 := Scalar.addi c0_i32_107_r0 v4
  let v212_r0 : BitVec 32 := Scalar.muli c512_i32_169_r0 v106_r0
  ![v211_r0.toNat, v212_r0.toNat]
def k0_off19 (arg8_r0 : BitVec 32) : Fin 1 → Nat :=
  let c2_i32_167_r0 : BitVec 32 := 2#32
  let v210_r0 : BitVec 32 := Scalar.remui arg8_r0 c2_i32_167_r0
  ![v210_r0.toNat]

def k0_chk1 (i : grid0.Coords) (k0_t1 : Fin k0_t1_loop.trips) (arg5_r0 : BitVec 32) (arg6_r0 : BitVec 32) (arg7_r0 : BitVec 32) (arg8_r0 : BitVec 32) (arg9_r0 : BitVec 32) : Prop :=
  (∀ (k0_h1 : k0_cond1 i k0_t1 arg9_r0 = 1#1), ∀ a, (k0_off4 arg5_r0) a + S1x40x512.size a ≤ S2x40x512.size a) ∧
  (∀ (k0_h1 : k0_cond1 i k0_t1 arg9_r0 = 1#1), ∀ a, (k0_off5 i arg9_r0) a + S40x512.size a ≤ S200x16384.size a) ∧
  (∀ (k0_h1 : k0_cond1 i k0_t1 arg9_r0 = 1#1), ∀ a, (k0_off6 arg5_r0) a + S1.size a ≤ S2.size a) ∧
  (∀ (k0_h2 : k0_cond2 i k0_t1 arg9_r0 = 1#1), ∀ a, (k0_off7 arg6_r0) a + S1x40x512.size a ≤ S2x40x512.size a) ∧
  (∀ (k0_h2 : k0_cond2 i k0_t1 arg9_r0 = 1#1), ∀ a, (k0_off8 i arg9_r0) a + S40x512.size a ≤ S200x16384.size a) ∧
  (∀ (k0_h2 : k0_cond2 i k0_t1 arg9_r0 = 1#1), ∀ a, (k0_off9 arg6_r0) a + S1.size a ≤ S2.size a) ∧
  (∀ (k0_h5 : k0_cond5 i k0_t1 arg9_r0 = 1#1), ∀ a, (k0_off14 arg7_r0) a + S1x40x512.size a ≤ S2x40x512.size a) ∧
  (∀ (k0_h5 : k0_cond5 i k0_t1 arg9_r0 = 1#1), ∀ a, (k0_off15 i arg9_r0) a + S40x512.size a ≤ S200x16384.size a) ∧
  (∀ (k0_h5 : k0_cond5 i k0_t1 arg9_r0 = 1#1), ∀ a, (k0_off16 arg7_r0) a + S1.size a ≤ S2.size a) ∧
  (∀ (k0_h7 : k0_cond7 i k0_t1 arg9_r0 = 1#1), ∀ a, (k0_off17 arg8_r0) a + S1x40x512.size a ≤ S2x40x512.size a) ∧
  (∀ (k0_h7 : k0_cond7 i k0_t1 arg9_r0 = 1#1), ∀ a, (k0_off18 i arg9_r0) a + S40x512.size a ≤ S200x16384.size a) ∧
  (∀ (k0_h7 : k0_cond7 i k0_t1 arg9_r0 = 1#1), ∀ a, (k0_off19 arg8_r0) a + S1.size a ≤ S2.size a)
theorem k0_off4_inb : ∀ (i : grid0.Coords) (k0_t1 : Fin k0_t1_loop.trips) (arg5_r0 : BitVec 32) (arg6_r0 : BitVec 32) (arg7_r0 : BitVec 32) (arg8_r0 : BitVec 32) (arg9_r0 : BitVec 32) (k0_hw1 : k0_chk1 i k0_t1 arg5_r0 arg6_r0 arg7_r0 arg8_r0 arg9_r0), ∀ (k0_h1 : k0_cond1 i k0_t1 arg9_r0 = 1#1), ∀ a, (k0_off4 arg5_r0) a + S1x40x512.size a ≤ S2x40x512.size a := fun i k0_t1 arg5_r0 arg6_r0 arg7_r0 arg8_r0 arg9_r0 k0_hw1 k0_h1 => k0_hw1.1 k0_h1
theorem k0_off5_inb : ∀ (i : grid0.Coords) (k0_t1 : Fin k0_t1_loop.trips) (arg5_r0 : BitVec 32) (arg6_r0 : BitVec 32) (arg7_r0 : BitVec 32) (arg8_r0 : BitVec 32) (arg9_r0 : BitVec 32) (k0_hw1 : k0_chk1 i k0_t1 arg5_r0 arg6_r0 arg7_r0 arg8_r0 arg9_r0), ∀ (k0_h1 : k0_cond1 i k0_t1 arg9_r0 = 1#1), ∀ a, (k0_off5 i arg9_r0) a + S40x512.size a ≤ S200x16384.size a := fun i k0_t1 arg5_r0 arg6_r0 arg7_r0 arg8_r0 arg9_r0 k0_hw1 k0_h1 => k0_hw1.2.1 k0_h1
theorem k0_off6_inb : ∀ (i : grid0.Coords) (k0_t1 : Fin k0_t1_loop.trips) (arg5_r0 : BitVec 32) (arg6_r0 : BitVec 32) (arg7_r0 : BitVec 32) (arg8_r0 : BitVec 32) (arg9_r0 : BitVec 32) (k0_hw1 : k0_chk1 i k0_t1 arg5_r0 arg6_r0 arg7_r0 arg8_r0 arg9_r0), ∀ (k0_h1 : k0_cond1 i k0_t1 arg9_r0 = 1#1), ∀ a, (k0_off6 arg5_r0) a + S1.size a ≤ S2.size a := fun i k0_t1 arg5_r0 arg6_r0 arg7_r0 arg8_r0 arg9_r0 k0_hw1 k0_h1 => k0_hw1.2.2.1 k0_h1
theorem k0_off7_inb : ∀ (i : grid0.Coords) (k0_t1 : Fin k0_t1_loop.trips) (arg5_r0 : BitVec 32) (arg6_r0 : BitVec 32) (arg7_r0 : BitVec 32) (arg8_r0 : BitVec 32) (arg9_r0 : BitVec 32) (k0_hw1 : k0_chk1 i k0_t1 arg5_r0 arg6_r0 arg7_r0 arg8_r0 arg9_r0), ∀ (k0_h2 : k0_cond2 i k0_t1 arg9_r0 = 1#1), ∀ a, (k0_off7 arg6_r0) a + S1x40x512.size a ≤ S2x40x512.size a := fun i k0_t1 arg5_r0 arg6_r0 arg7_r0 arg8_r0 arg9_r0 k0_hw1 k0_h2 => k0_hw1.2.2.2.1 k0_h2
theorem k0_off8_inb : ∀ (i : grid0.Coords) (k0_t1 : Fin k0_t1_loop.trips) (arg5_r0 : BitVec 32) (arg6_r0 : BitVec 32) (arg7_r0 : BitVec 32) (arg8_r0 : BitVec 32) (arg9_r0 : BitVec 32) (k0_hw1 : k0_chk1 i k0_t1 arg5_r0 arg6_r0 arg7_r0 arg8_r0 arg9_r0), ∀ (k0_h2 : k0_cond2 i k0_t1 arg9_r0 = 1#1), ∀ a, (k0_off8 i arg9_r0) a + S40x512.size a ≤ S200x16384.size a := fun i k0_t1 arg5_r0 arg6_r0 arg7_r0 arg8_r0 arg9_r0 k0_hw1 k0_h2 => k0_hw1.2.2.2.2.1 k0_h2
theorem k0_off9_inb : ∀ (i : grid0.Coords) (k0_t1 : Fin k0_t1_loop.trips) (arg5_r0 : BitVec 32) (arg6_r0 : BitVec 32) (arg7_r0 : BitVec 32) (arg8_r0 : BitVec 32) (arg9_r0 : BitVec 32) (k0_hw1 : k0_chk1 i k0_t1 arg5_r0 arg6_r0 arg7_r0 arg8_r0 arg9_r0), ∀ (k0_h2 : k0_cond2 i k0_t1 arg9_r0 = 1#1), ∀ a, (k0_off9 arg6_r0) a + S1.size a ≤ S2.size a := fun i k0_t1 arg5_r0 arg6_r0 arg7_r0 arg8_r0 arg9_r0 k0_hw1 k0_h2 => k0_hw1.2.2.2.2.2.1 k0_h2
theorem k0_off14_inb : ∀ (i : grid0.Coords) (k0_t1 : Fin k0_t1_loop.trips) (arg5_r0 : BitVec 32) (arg6_r0 : BitVec 32) (arg7_r0 : BitVec 32) (arg8_r0 : BitVec 32) (arg9_r0 : BitVec 32) (k0_hw1 : k0_chk1 i k0_t1 arg5_r0 arg6_r0 arg7_r0 arg8_r0 arg9_r0), ∀ (k0_h5 : k0_cond5 i k0_t1 arg9_r0 = 1#1), ∀ a, (k0_off14 arg7_r0) a + S1x40x512.size a ≤ S2x40x512.size a := fun i k0_t1 arg5_r0 arg6_r0 arg7_r0 arg8_r0 arg9_r0 k0_hw1 k0_h5 => k0_hw1.2.2.2.2.2.2.1 k0_h5
theorem k0_off15_inb : ∀ (i : grid0.Coords) (k0_t1 : Fin k0_t1_loop.trips) (arg5_r0 : BitVec 32) (arg6_r0 : BitVec 32) (arg7_r0 : BitVec 32) (arg8_r0 : BitVec 32) (arg9_r0 : BitVec 32) (k0_hw1 : k0_chk1 i k0_t1 arg5_r0 arg6_r0 arg7_r0 arg8_r0 arg9_r0), ∀ (k0_h5 : k0_cond5 i k0_t1 arg9_r0 = 1#1), ∀ a, (k0_off15 i arg9_r0) a + S40x512.size a ≤ S200x16384.size a := fun i k0_t1 arg5_r0 arg6_r0 arg7_r0 arg8_r0 arg9_r0 k0_hw1 k0_h5 => k0_hw1.2.2.2.2.2.2.2.1 k0_h5
theorem k0_off16_inb : ∀ (i : grid0.Coords) (k0_t1 : Fin k0_t1_loop.trips) (arg5_r0 : BitVec 32) (arg6_r0 : BitVec 32) (arg7_r0 : BitVec 32) (arg8_r0 : BitVec 32) (arg9_r0 : BitVec 32) (k0_hw1 : k0_chk1 i k0_t1 arg5_r0 arg6_r0 arg7_r0 arg8_r0 arg9_r0), ∀ (k0_h5 : k0_cond5 i k0_t1 arg9_r0 = 1#1), ∀ a, (k0_off16 arg7_r0) a + S1.size a ≤ S2.size a := fun i k0_t1 arg5_r0 arg6_r0 arg7_r0 arg8_r0 arg9_r0 k0_hw1 k0_h5 => k0_hw1.2.2.2.2.2.2.2.2.1 k0_h5
theorem k0_off17_inb : ∀ (i : grid0.Coords) (k0_t1 : Fin k0_t1_loop.trips) (arg5_r0 : BitVec 32) (arg6_r0 : BitVec 32) (arg7_r0 : BitVec 32) (arg8_r0 : BitVec 32) (arg9_r0 : BitVec 32) (k0_hw1 : k0_chk1 i k0_t1 arg5_r0 arg6_r0 arg7_r0 arg8_r0 arg9_r0), ∀ (k0_h7 : k0_cond7 i k0_t1 arg9_r0 = 1#1), ∀ a, (k0_off17 arg8_r0) a + S1x40x512.size a ≤ S2x40x512.size a := fun i k0_t1 arg5_r0 arg6_r0 arg7_r0 arg8_r0 arg9_r0 k0_hw1 k0_h7 => k0_hw1.2.2.2.2.2.2.2.2.2.1 k0_h7
theorem k0_off18_inb : ∀ (i : grid0.Coords) (k0_t1 : Fin k0_t1_loop.trips) (arg5_r0 : BitVec 32) (arg6_r0 : BitVec 32) (arg7_r0 : BitVec 32) (arg8_r0 : BitVec 32) (arg9_r0 : BitVec 32) (k0_hw1 : k0_chk1 i k0_t1 arg5_r0 arg6_r0 arg7_r0 arg8_r0 arg9_r0), ∀ (k0_h7 : k0_cond7 i k0_t1 arg9_r0 = 1#1), ∀ a, (k0_off18 i arg9_r0) a + S40x512.size a ≤ S200x16384.size a := fun i k0_t1 arg5_r0 arg6_r0 arg7_r0 arg8_r0 arg9_r0 k0_hw1 k0_h7 => k0_hw1.2.2.2.2.2.2.2.2.2.2.1 k0_h7
theorem k0_off19_inb : ∀ (i : grid0.Coords) (k0_t1 : Fin k0_t1_loop.trips) (arg5_r0 : BitVec 32) (arg6_r0 : BitVec 32) (arg7_r0 : BitVec 32) (arg8_r0 : BitVec 32) (arg9_r0 : BitVec 32) (k0_hw1 : k0_chk1 i k0_t1 arg5_r0 arg6_r0 arg7_r0 arg8_r0 arg9_r0), ∀ (k0_h7 : k0_cond7 i k0_t1 arg9_r0 = 1#1), ∀ a, (k0_off19 arg8_r0) a + S1.size a ≤ S2.size a := fun i k0_t1 arg5_r0 arg6_r0 arg7_r0 arg8_r0 arg9_r0 k0_hw1 k0_h7 => k0_hw1.2.2.2.2.2.2.2.2.2.2.2 k0_h7

def k0_off20 (v45_3_r0 : BitVec 32) : Fin 3 → Nat :=
  let c2_i32_88_r0 : BitVec 32 := 2#32
  let v83_r0 : BitVec 32 := Scalar.remui v45_3_r0 c2_i32_88_r0
  let c0_i32_90_r0 : BitVec 32 := 0#32
  let c0_i32_91_r0 : BitVec 32 := 0#32
  ![v83_r0.toNat, 0, 0]

def k0_off21 (i : grid0.Coords) (v45_5_r0 : BitVec 32) (v45_4_r0 : BitVec 32) : Fin 2 → Nat :=
  let c40_i32_r0 : BitVec 32 := 40#32
  let true_50_r0 : BitVec 1 := 1#1
  let c1_i32_49_r0 : BitVec 32 := 1#32
  let v46_r0 : BitVec 32 := Scalar.subi v45_5_r0 c1_i32_49_r0
  let v47_r0 : BitVec 32 := Scalar.select true_50_r0 v46_r0 v45_5_r0
  let c_m1_i32_51_r0 : BitVec 32 := 4294967295#32
  let v48_r0 : BitVec 1 := Scalar.cmpi .eq v47_r0 c_m1_i32_51_r0
  let c1_i32_53_r0 : BitVec 32 := 1#32
  let v50_r0 : BitVec 32 := Scalar.subi v45_4_r0 c1_i32_53_r0
  let v51_r0 : BitVec 32 := Scalar.select v48_r0 v50_r0 v45_4_r0
  let c_m1_i32_54_r0 : BitVec 32 := 4294967295#32
  let v52_r0 : BitVec 1 := Scalar.cmpi .eq v51_r0 c_m1_i32_54_r0
  let c4_i32_55_r0 : BitVec 32 := 4#32
  let v53_r0 : BitVec 32 := Scalar.select v52_r0 c4_i32_55_r0 v51_r0
  let c0_i32_56_r0 : BitVec 32 := 0#32
  let v54_r0 : BitVec 32 := Scalar.addi v53_r0 c0_i32_56_r0
  let v84_r0 : BitVec 32 := Scalar.muli c40_i32_r0 v54_r0
  let c512_i32_89_r0 : BitVec 32 := 512#32
  let c0_i32_57_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v55_r0 : BitVec 32 := Scalar.addi c0_i32_57_r0 v4
  let v85_r0 : BitVec 32 := Scalar.muli c512_i32_89_r0 v55_r0
  ![v84_r0.toNat, v85_r0.toNat]

def k0_chk5 (i : grid0.Coords) (v45_5_r0 : BitVec 32) (v45_4_r0 : BitVec 32) : Prop :=
  (∀ a, (k0_off21 i v45_5_r0 v45_4_r0) a + S40x512.size a ≤ S200x16384.size a)
theorem k0_off21_inb : ∀ (i : grid0.Coords) (v45_5_r0 : BitVec 32) (v45_4_r0 : BitVec 32) (k0_hw5 : k0_chk5 i v45_5_r0 v45_4_r0), ∀ a, (k0_off21 i v45_5_r0 v45_4_r0) a + S40x512.size a ≤ S200x16384.size a := fun i v45_5_r0 v45_4_r0 k0_hw5 => k0_hw5

def k0_off22 (v45_3_r0 : BitVec 32) : Fin 1 → Nat :=
  let c2_i32_88_r0 : BitVec 32 := 2#32
  let v83_r0 : BitVec 32 := Scalar.remui v45_3_r0 c2_i32_88_r0
  ![v83_r0.toNat]
def k0_off23 (v45_3_r0 : BitVec 32) : Fin 3 → Nat :=
  let c2_i32_88_r0 : BitVec 32 := 2#32
  let v83_r0 : BitVec 32 := Scalar.remui v45_3_r0 c2_i32_88_r0
  let c0_i32_92_r0 : BitVec 32 := 0#32
  let c0_i32_93_r0 : BitVec 32 := 0#32
  ![v83_r0.toNat, 0, 0]

def k0_chk4 (v45_3_r0 : BitVec 32) : Prop :=
  (∀ a, (k0_off20 v45_3_r0) a + S1x40x512.size a ≤ S2x40x512.size a) ∧
  (∀ a, (k0_off22 v45_3_r0) a + S1.size a ≤ S2.size a) ∧
  (∀ a, (k0_off23 v45_3_r0) a + S1x40x512.size a ≤ S2x40x512.size a)
theorem k0_off20_inb : ∀ (v45_3_r0 : BitVec 32) (k0_hw4 : k0_chk4 v45_3_r0), ∀ a, (k0_off20 v45_3_r0) a + S1x40x512.size a ≤ S2x40x512.size a := fun v45_3_r0 k0_hw4 => k0_hw4.1
theorem k0_off22_inb : ∀ (v45_3_r0 : BitVec 32) (k0_hw4 : k0_chk4 v45_3_r0), ∀ a, (k0_off22 v45_3_r0) a + S1.size a ≤ S2.size a := fun v45_3_r0 k0_hw4 => k0_hw4.2.1
theorem k0_off23_inb : ∀ (v45_3_r0 : BitVec 32) (k0_hw4 : k0_chk4 v45_3_r0), ∀ a, (k0_off23 v45_3_r0) a + S1x40x512.size a ≤ S2x40x512.size a := fun v45_3_r0 k0_hw4 => k0_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S16384x200 : Shape := ⟨2, ![16384, 200]⟩
abbrev S1000 : Shape := ⟨1, ![1000]⟩
abbrev S_ : Shape := ⟨0, ![]⟩
abbrev S1000x1 : Shape := ⟨2, ![1000, 1]⟩
abbrev S1 : Shape := ⟨1, ![1]⟩
abbrev S1x1 : Shape := ⟨2, ![1, 1]⟩
abbrev S1000x1x1 : Shape := ⟨3, ![1000, 1, 1]⟩
abbrev S1x16384x200 : Shape := ⟨3, ![1, 16384, 200]⟩
abbrev S1000x16384x200 : Shape := ⟨3, ![1000, 16384, 200]⟩
abbrev S16384x200x1 : Shape := ⟨3, ![16384, 200, 1]⟩
abbrev S1x1x1 : Shape := ⟨3, ![1, 1, 1]⟩

abbrev nBuf : Space → Nat
  | .hbm => 114
  | .vmem => 0
  | .smem => 0
  | _ => 0

abbrev bufTy : (tb : Table) → Fin (tcTables nBuf tb) → BufTy
  | .hbm, ⟨0, _⟩ => ⟨S16384x200, .i32⟩
  | .hbm, ⟨1, _⟩ => ⟨S1000, .i32⟩
  | .hbm, ⟨2, _⟩ => ⟨S1000, .i32⟩
  | .hbm, ⟨3, _⟩ => ⟨S1000, .i32⟩
  | .hbm, ⟨4, _⟩ => ⟨S1000, .i32⟩
  | .hbm, ⟨5, _⟩ => ⟨S1000, .i32⟩
  | .hbm, ⟨6, _⟩ => ⟨S_, .i32⟩
  | .hbm, ⟨7, _⟩ => ⟨S1000, .i32⟩
  | .hbm, ⟨8, _⟩ => ⟨S1000, .i1⟩
  | .hbm, ⟨9, _⟩ => ⟨S_, .i32⟩
  | .hbm, ⟨10, _⟩ => ⟨S1000, .i32⟩
  | .hbm, ⟨11, _⟩ => ⟨S1000, .i32⟩
  | .hbm, ⟨12, _⟩ => ⟨S1000, .i32⟩
  | .hbm, ⟨13, _⟩ => ⟨S1000x1, .i32⟩
  | .hbm, ⟨14, _⟩ => ⟨S1, .i32⟩
  | .hbm, ⟨15, _⟩ => ⟨S_, .i32⟩
  | .hbm, ⟨16, _⟩ => ⟨S1000x1, .i32⟩
  | .hbm, ⟨17, _⟩ => ⟨S1000x1, .i1⟩
  | .hbm, ⟨18, _⟩ => ⟨S1x1, .i32⟩
  | .hbm, ⟨19, _⟩ => ⟨S1000x1, .i32⟩
  | .hbm, ⟨20, _⟩ => ⟨S1000x1, .i1⟩
  | .hbm, ⟨21, _⟩ => ⟨S1000x1, .i1⟩
  | .hbm, ⟨22, _⟩ => ⟨S_, .i1⟩
  | .hbm, ⟨23, _⟩ => ⟨S1000, .i1⟩
  | .hbm, ⟨24, _⟩ => ⟨S1000, .i32⟩
  | .hbm, ⟨25, _⟩ => ⟨S_, .i32⟩
  | .hbm, ⟨26, _⟩ => ⟨S1000, .i32⟩
  | .hbm, ⟨27, _⟩ => ⟨S1000, .i32⟩
  | .hbm, ⟨28, _⟩ => ⟨S_, .i32⟩
  | .hbm, ⟨29, _⟩ => ⟨S1000, .i32⟩
  | .hbm, ⟨30, _⟩ => ⟨S1000, .i1⟩
  | .hbm, ⟨31, _⟩ => ⟨S_, .i32⟩
  | .hbm, ⟨32, _⟩ => ⟨S1000, .i32⟩
  | .hbm, ⟨33, _⟩ => ⟨S1000, .i32⟩
  | .hbm, ⟨34, _⟩ => ⟨S1000, .i32⟩
  | .hbm, ⟨35, _⟩ => ⟨S1000x1, .i32⟩
  | .hbm, ⟨36, _⟩ => ⟨S1, .i32⟩
  | .hbm, ⟨37, _⟩ => ⟨S_, .i32⟩
  | .hbm, ⟨38, _⟩ => ⟨S1000x1, .i32⟩
  | .hbm, ⟨39, _⟩ => ⟨S1000x1, .i1⟩
  | .hbm, ⟨40, _⟩ => ⟨S1x1, .i32⟩
  | .hbm, ⟨41, _⟩ => ⟨S1000x1, .i32⟩
  | .hbm, ⟨42, _⟩ => ⟨S1000x1, .i1⟩
  | .hbm, ⟨43, _⟩ => ⟨S1000x1, .i1⟩
  | .hbm, ⟨44, _⟩ => ⟨S_, .i1⟩
  | .hbm, ⟨45, _⟩ => ⟨S1000, .i1⟩
  | .hbm, ⟨46, _⟩ => ⟨S1000, .i32⟩
  | .hbm, ⟨47, _⟩ => ⟨S_, .i32⟩
  | .hbm, ⟨48, _⟩ => ⟨S1000, .i32⟩
  | .hbm, ⟨49, _⟩ => ⟨S1000, .i32⟩
  | .hbm, ⟨50, _⟩ => ⟨S1000x1x1, .i32⟩
  | .hbm, ⟨51, _⟩ => ⟨S1x16384x200, .i32⟩
  | .hbm, ⟨52, _⟩ => ⟨S1000x16384x200, .i32⟩
  | .hbm, ⟨53, _⟩ => ⟨S1000x16384x200, .i32⟩
  | .hbm, ⟨54, _⟩ => ⟨S1000x16384x200, .i1⟩
  | .hbm, ⟨55, _⟩ => ⟨S1000x16384x200, .i32⟩
  | .hbm, ⟨56, _⟩ => ⟨S_, .i32⟩
  | .hbm, ⟨57, _⟩ => ⟨S16384x200, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S16384x200, .i32⟩
  | .hbm, ⟨62, _⟩ => ⟨S16384x200, .i32⟩
  | .hbm, ⟨63, _⟩ => ⟨S_, .i32⟩
  | .hbm, ⟨64, _⟩ => ⟨S16384x200, .i32⟩
  | .hbm, ⟨65, _⟩ => ⟨S16384x200, .i32⟩
  | .hbm, ⟨66, _⟩ => ⟨S_, .i32⟩
  | .hbm, ⟨67, _⟩ => ⟨S16384x200, .i32⟩
  | .hbm, ⟨68, _⟩ => ⟨S16384x200, .i1⟩
  | .hbm, ⟨69, _⟩ => ⟨S_, .i32⟩
  | .hbm, ⟨70, _⟩ => ⟨S16384x200, .i32⟩
  | .hbm, ⟨71, _⟩ => ⟨S16384x200, .i32⟩
  | .hbm, ⟨72, _⟩ => ⟨S16384x200, .i32⟩
  | .hbm, ⟨73, _⟩ => ⟨S16384x200x1, .i32⟩
  | .hbm, ⟨74, _⟩ => ⟨S1, .i32⟩
  | .hbm, ⟨75, _⟩ => ⟨S_, .i32⟩
  | .hbm, ⟨76, _⟩ => ⟨S16384x200x1, .i32⟩
  | .hbm, ⟨77, _⟩ => ⟨S16384x200x1, .i1⟩
  | .hbm, ⟨78, _⟩ => ⟨S1x1x1, .i32⟩
  | .hbm, ⟨79, _⟩ => ⟨S16384x200x1, .i32⟩
  | .hbm, ⟨80, _⟩ => ⟨S16384x200x1, .i1⟩
  | .hbm, ⟨81, _⟩ => ⟨S16384x200x1, .i1⟩
  | .hbm, ⟨82, _⟩ => ⟨S_, .i1⟩
  | .hbm, ⟨83, _⟩ => ⟨S16384x200, .i1⟩
  | .hbm, ⟨84, _⟩ => ⟨S16384x200, .i32⟩
  | .hbm, ⟨85, _⟩ => ⟨S_, .i32⟩
  | .hbm, ⟨86, _⟩ => ⟨S16384x200, .i32⟩
  | .hbm, ⟨87, _⟩ => ⟨S16384x200, .i32⟩
  | .hbm, ⟨88, _⟩ => ⟨S16384x200, .i1⟩
  | .hbm, ⟨89, _⟩ => ⟨S_, .i32⟩
  | .hbm, ⟨90, _⟩ => ⟨S16384x200, .i32⟩
  | .hbm, ⟨91, _⟩ => ⟨S16384x200, .i1⟩
  | .hbm, ⟨92, _⟩ => ⟨S_, .i32⟩
  | .hbm, ⟨93, _⟩ => ⟨S16384x200, .i32⟩
  | .hbm, ⟨94, _⟩ => ⟨S16384x200, .i32⟩
  | .hbm, ⟨95, _⟩ => ⟨S16384x200, .i32⟩
  | .hbm, ⟨96, _⟩ => ⟨S16384x200x1, .i32⟩
  | .hbm, ⟨97, _⟩ => ⟨S1, .i32⟩
  | .hbm, ⟨98, _⟩ => ⟨S_, .i32⟩
  | .hbm, ⟨99, _⟩ => ⟨S16384x200x1, .i32⟩
  | .hbm, ⟨100, _⟩ => ⟨S16384x200x1, .i1⟩
  | .hbm, ⟨101, _⟩ => ⟨S1x1x1, .i32⟩
  | .hbm, ⟨102, _⟩ => ⟨S16384x200x1, .i32⟩
  | .hbm, ⟨103, _⟩ => ⟨S16384x200x1, .i1⟩
  | .hbm, ⟨104, _⟩ => ⟨S16384x200x1, .i1⟩
  | .hbm, ⟨105, _⟩ => ⟨S_, .i1⟩
  | .hbm, ⟨106, _⟩ => ⟨S16384x200, .i1⟩
  | .hbm, ⟨107, _⟩ => ⟨S16384x200, .i32⟩
  | .hbm, ⟨108, _⟩ => ⟨S_, .i32⟩
  | .hbm, ⟨109, _⟩ => ⟨S16384x200, .i32⟩
  | .hbm, ⟨110, _⟩ => ⟨S16384x200, .i32⟩
  | .hbm, ⟨111, _⟩ => ⟨S_, .i32⟩
  | .hbm, ⟨112, _⟩ => ⟨S16384x200, .i32⟩
  | .hbm, ⟨113, _⟩ => ⟨S16384x200, .i32⟩
  | _, _ => ⟨S16384x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1_0 : Ref sig .tc := ⟨.hbm, 4, rfl⟩
abbrev main_v0 : Ref sig .tc := ⟨.hbm, 5, rfl⟩
abbrev main_call1_c : Ref sig .tc := ⟨.hbm, 6, rfl⟩
abbrev main_call1_v0 : Ref sig .tc := ⟨.hbm, 7, rfl⟩
abbrev main_call1_v1 : Ref sig .tc := ⟨.hbm, 8, rfl⟩
abbrev main_call1_c_0 : Ref sig .tc := ⟨.hbm, 9, rfl⟩
abbrev main_call1_v2 : Ref sig .tc := ⟨.hbm, 10, rfl⟩
abbrev main_call1_v3 : Ref sig .tc := ⟨.hbm, 11, rfl⟩
abbrev main_call1_v4 : Ref sig .tc := ⟨.hbm, 12, rfl⟩
abbrev main_call1_v5 : Ref sig .tc := ⟨.hbm, 13, rfl⟩
abbrev main_call1_c_1 : Ref sig .tc := ⟨.hbm, 14, rfl⟩
abbrev main_call1_c_2 : Ref sig .tc := ⟨.hbm, 15, rfl⟩
abbrev main_call1_v6 : Ref sig .tc := ⟨.hbm, 16, rfl⟩
abbrev main_call1_v7 : Ref sig .tc := ⟨.hbm, 17, rfl⟩
abbrev main_call1_v8 : Ref sig .tc := ⟨.hbm, 18, rfl⟩
abbrev main_call1_v9 : Ref sig .tc := ⟨.hbm, 19, rfl⟩
abbrev main_call1_v10 : Ref sig .tc := ⟨.hbm, 20, rfl⟩
abbrev main_call1_v11 : Ref sig .tc := ⟨.hbm, 21, rfl⟩
abbrev main_call1_c_3 : Ref sig .tc := ⟨.hbm, 22, rfl⟩
abbrev main_call1_v12 : Ref sig .tc := ⟨.hbm, 23, rfl⟩
abbrev main_call1_v13 : Ref sig .tc := ⟨.hbm, 24, rfl⟩
abbrev main_call1_c_4 : Ref sig .tc := ⟨.hbm, 25, rfl⟩
abbrev main_call1_v14 : Ref sig .tc := ⟨.hbm, 26, rfl⟩
abbrev main_v1 : Ref sig .tc := ⟨.hbm, 27, rfl⟩
abbrev main_call2_c : Ref sig .tc := ⟨.hbm, 28, rfl⟩
abbrev main_call2_v0 : Ref sig .tc := ⟨.hbm, 29, rfl⟩
abbrev main_call2_v1 : Ref sig .tc := ⟨.hbm, 30, rfl⟩
abbrev main_call2_c_0 : Ref sig .tc := ⟨.hbm, 31, rfl⟩
abbrev main_call2_v2 : Ref sig .tc := ⟨.hbm, 32, rfl⟩
abbrev main_call2_v3 : Ref sig .tc := ⟨.hbm, 33, rfl⟩
abbrev main_call2_v4 : Ref sig .tc := ⟨.hbm, 34, rfl⟩
abbrev main_call2_v5 : Ref sig .tc := ⟨.hbm, 35, rfl⟩
abbrev main_call2_c_1 : Ref sig .tc := ⟨.hbm, 36, rfl⟩
abbrev main_call2_c_2 : Ref sig .tc := ⟨.hbm, 37, rfl⟩
abbrev main_call2_v6 : Ref sig .tc := ⟨.hbm, 38, rfl⟩
abbrev main_call2_v7 : Ref sig .tc := ⟨.hbm, 39, rfl⟩
abbrev main_call2_v8 : Ref sig .tc := ⟨.hbm, 40, rfl⟩
abbrev main_call2_v9 : Ref sig .tc := ⟨.hbm, 41, rfl⟩
abbrev main_call2_v10 : Ref sig .tc := ⟨.hbm, 42, rfl⟩
abbrev main_call2_v11 : Ref sig .tc := ⟨.hbm, 43, rfl⟩
abbrev main_call2_c_3 : Ref sig .tc := ⟨.hbm, 44, rfl⟩
abbrev main_call2_v12 : Ref sig .tc := ⟨.hbm, 45, rfl⟩
abbrev main_call2_v13 : Ref sig .tc := ⟨.hbm, 46, rfl⟩
abbrev main_call2_c_4 : Ref sig .tc := ⟨.hbm, 47, rfl⟩
abbrev main_call2_v14 : Ref sig .tc := ⟨.hbm, 48, rfl⟩
abbrev main_v2 : Ref sig .tc := ⟨.hbm, 49, rfl⟩
abbrev main_v3 : Ref sig .tc := ⟨.hbm, 50, rfl⟩
abbrev main_v4 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_v8 : Ref sig .tc := ⟨.hbm, 55, rfl⟩
abbrev main_c : Ref sig .tc := ⟨.hbm, 56, rfl⟩
abbrev main_v9 : Ref sig .tc := ⟨.hbm, 57, rfl⟩
abbrev main_c_0 : Ref sig .tc := ⟨.hbm, 58, rfl⟩
abbrev main_c_1 : Ref sig .tc := ⟨.hbm, 59, rfl⟩
abbrev main_call3_v0 : Ref sig .tc := ⟨.hbm, 60, rfl⟩
abbrev main_call3_v1 : Ref sig .tc := ⟨.hbm, 61, rfl⟩
abbrev main_call3_v2 : Ref sig .tc := ⟨.hbm, 62, rfl⟩
abbrev main_call3_v3 : Ref sig .tc := ⟨.hbm, 63, rfl⟩
abbrev main_call3_v4 : Ref sig .tc := ⟨.hbm, 64, rfl⟩
abbrev main_v10 : Ref sig .tc := ⟨.hbm, 65, rfl⟩
abbrev main_call4_c : Ref sig .tc := ⟨.hbm, 66, rfl⟩
abbrev main_call4_v0 : Ref sig .tc := ⟨.hbm, 67, rfl⟩
abbrev main_call4_v1 : Ref sig .tc := ⟨.hbm, 68, rfl⟩
abbrev main_call4_c_0 : Ref sig .tc := ⟨.hbm, 69, rfl⟩
abbrev main_call4_v2 : Ref sig .tc := ⟨.hbm, 70, rfl⟩
abbrev main_call4_v3 : Ref sig .tc := ⟨.hbm, 71, rfl⟩
abbrev main_call4_v4 : Ref sig .tc := ⟨.hbm, 72, rfl⟩
abbrev main_call4_v5 : Ref sig .tc := ⟨.hbm, 73, rfl⟩
abbrev main_call4_c_1 : Ref sig .tc := ⟨.hbm, 74, rfl⟩
abbrev main_call4_c_2 : Ref sig .tc := ⟨.hbm, 75, rfl⟩
abbrev main_call4_v6 : Ref sig .tc := ⟨.hbm, 76, rfl⟩
abbrev main_call4_v7 : Ref sig .tc := ⟨.hbm, 77, rfl⟩
abbrev main_call4_v8 : Ref sig .tc := ⟨.hbm, 78, rfl⟩
abbrev main_call4_v9 : Ref sig .tc := ⟨.hbm, 79, rfl⟩
abbrev main_call4_v10 : Ref sig .tc := ⟨.hbm, 80, rfl⟩
abbrev main_call4_v11 : Ref sig .tc := ⟨.hbm, 81, rfl⟩
abbrev main_call4_c_3 : Ref sig .tc := ⟨.hbm, 82, rfl⟩
abbrev main_call4_v12 : Ref sig .tc := ⟨.hbm, 83, rfl⟩
abbrev main_call4_v13 : Ref sig .tc := ⟨.hbm, 84, rfl⟩
abbrev main_call4_c_4 : Ref sig .tc := ⟨.hbm, 85, rfl⟩
abbrev main_call4_v14 : Ref sig .tc := ⟨.hbm, 86, rfl⟩
abbrev main_v11 : Ref sig .tc := ⟨.hbm, 87, rfl⟩
abbrev main_v12 : Ref sig .tc := ⟨.hbm, 88, rfl⟩
abbrev main_call5_c : Ref sig .tc := ⟨.hbm, 89, rfl⟩
abbrev main_call5_v0 : Ref sig .tc := ⟨.hbm, 90, rfl⟩
abbrev main_call5_v1 : Ref sig .tc := ⟨.hbm, 91, rfl⟩
abbrev main_call5_c_0 : Ref sig .tc := ⟨.hbm, 92, rfl⟩
abbrev main_call5_v2 : Ref sig .tc := ⟨.hbm, 93, rfl⟩
abbrev main_call5_v3 : Ref sig .tc := ⟨.hbm, 94, rfl⟩
abbrev main_call5_v4 : Ref sig .tc := ⟨.hbm, 95, rfl⟩
abbrev main_call5_v5 : Ref sig .tc := ⟨.hbm, 96, rfl⟩
abbrev main_call5_c_1 : Ref sig .tc := ⟨.hbm, 97, rfl⟩
abbrev main_call5_c_2 : Ref sig .tc := ⟨.hbm, 98, rfl⟩
abbrev main_call5_v6 : Ref sig .tc := ⟨.hbm, 99, rfl⟩
abbrev main_call5_v7 : Ref sig .tc := ⟨.hbm, 100, rfl⟩
abbrev main_call5_v8 : Ref sig .tc := ⟨.hbm, 101, rfl⟩
abbrev main_call5_v9 : Ref sig .tc := ⟨.hbm, 102, rfl⟩
abbrev main_call5_v10 : Ref sig .tc := ⟨.hbm, 103, rfl⟩
abbrev main_call5_v11 : Ref sig .tc := ⟨.hbm, 104, rfl⟩
abbrev main_call5_c_3 : Ref sig .tc := ⟨.hbm, 105, rfl⟩
abbrev main_call5_v12 : Ref sig .tc := ⟨.hbm, 106, rfl⟩
abbrev main_call5_v13 : Ref sig .tc := ⟨.hbm, 107, rfl⟩
abbrev main_call5_c_4 : Ref sig .tc := ⟨.hbm, 108, rfl⟩
abbrev main_call5_v14 : Ref sig .tc := ⟨.hbm, 109, rfl⟩
abbrev main_v13 : Ref sig .tc := ⟨.hbm, 110, rfl⟩
abbrev main_c_2 : Ref sig .tc := ⟨.hbm, 111, rfl⟩
abbrev main_call6_v0 : Ref sig .tc := ⟨.hbm, 112, rfl⟩
abbrev main_v14 : Ref sig .tc := ⟨.hbm, 113, rfl⟩

abbrev nD : Nat := 1
abbrev τ : Topo := Topo.v7x

variable {F : FTy → Type} [FloatOps F]
-- ==== Proof.Setup.lean ====
/-
  The program as the SparseCore launch theorem reads it, and the names the later modules use: the resource algebra, the whole
  buffers the kernel's body is handed, the two double buffers' slots, and the 40 × 512 blocks of the transposed arrays.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.Writes
public import proofs.«01_k».proof.Proof.Gen.KernelIdeal
public import proofs.«01_k».proof.Proof.Gen.KernelIdeal.Skeleton

@[expose] public section

set_option maxRecDepth 16384

noncomputable section

namespace Cert.Proof.Lookup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The launch's vocabulary -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshakes' rounds beside the transfers' counters. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers, whole -/

/-- The transposed keys in HBM, as a vector subcore names them. -/
abbrev xV : Memref sig .scVector .hbm S200x16384 .i32 := Memref.whole main_v0_scv
/-- The transposed result in HBM, as a vector subcore names it. -/
abbrev oV : Memref sig .scVector .hbm S200x16384 .i32 := Memref.whole main_v1_scv
/-- The tile's double buffer for fetched keys. -/
abbrev bufI : Memref sig .scVector .vmem S2x40x512 .i32 := Memref.whole cc0_scoped0
/-- The tile's double buffer for results. -/
abbrev bufO : Memref sig .scVector .vmem S2x40x512 .i32 := Memref.whole cc0_scoped2

abbrev cV (L : grid0.Coords) : Fin τ.nSC := (L 0).castLE hcore0
abbrev jV (L : grid0.Coords) : Fin τ.nSub := (L 1).castLE hsub0
/-- The thread of the vector subcore at grid point `L` of device `d`. -/
abbrev thr (d : Dev nD) (L : grid0.Coords) : Thread nD τ := V d (cV L) (jV L)

/-- What the kernel computes of one key: the key itself below the table's size 1000, and 1000 from there on, unsigned. -/
def clampW (x : BitVec 32) : BitVec 32 := IntOp.minui x 1000#32

end Cert.Proof.Lookup

end
-- ==== Proof.Words.lean ====
/-
  The words the pipelined loop carries, in closed form at each trip, and what the kernel computes of them: which slot, which
  semaphore and which block every transfer names, and which of the conditional transfers happen.
-/
module

public import proofs.«01_k».proof.Proof.Setup

@[expose] public section

set_option maxRecDepth 16384

noncomputable section

namespace Cert.Proof.Lookup

open Cert.KernelIdeal Cert.KernelIdeal.Gen
open Idealize.ShloMosaic

/-! ## Closed forms -/

/-- Slot `k mod 2` of a double buffer. -/
abbrev slotOff (k : ℕ) : Fin 3 → ℕ := ![k % 2, 0, 0]
/-- The semaphore of slot `k mod 2`. -/
abbrev semOff (k : ℕ) : Fin 1 → ℕ := ![k % 2]
/-- Block `k` of the tile's columns: forty rows from 40 k, and the 512 columns of tile `L`. -/
abbrev blkOff (L : grid0.Coords) (k : ℕ) : Fin 2 → ℕ := ![40 * k, 512 * (L 1).val + 8192 * (L 0).val]

/-- How many blocks have been asked for before trip `t`. -/
abbrev w5 (t : ℕ) : BitVec 32 := BitVec.ofNat 32 (min (t + 1) 5)
/-- How many blocks have arrived before trip `t`, and how many have been sent. -/
abbrev w6 (t : ℕ) : BitVec 32 := BitVec.ofNat 32 t
/-- How many sent blocks have been waited for before trip `t`. -/
abbrev w8 (t : ℕ) : BitVec 32 := BitVec.ofNat 32 (t - 1)
/-- The block trip `t` works on; back to the first after the last trip. -/
abbrev w9 (t : ℕ) : BitVec 32 := BitVec.ofNat 32 (t % 5)

theorem slotOff_inb (k : ℕ) : ∀ a, slotOff k a + S1x40x512.size a ≤ S2x40x512.size a :=
  (show ∀ p : Fin 2, ∀ a, (![p.val, 0, 0] : Fin 3 → ℕ) a + S1x40x512.size a ≤ S2x40x512.size a by decide +kernel)
    ⟨k % 2, Nat.mod_lt _ (by norm_num)⟩

theorem semOff_inb (k : ℕ) : ∀ a, semOff k a + S1.size a ≤ S2.size a :=
  (show ∀ p : Fin 2, ∀ a, (![p.val] : Fin 1 → ℕ) a + S1.size a ≤ S2.size a by decide +kernel)
    ⟨k % 2, Nat.mod_lt _ (by norm_num)⟩

theorem blkOff_inb : ∀ (L : grid0.Coords) (r : Fin 5), ∀ a, blkOff L r a + S40x512.size a ≤ S200x16384.size a := by
  decide +kernel

theorem trips_t1 : k0_t1_loop.trips = 5 := by decide +kernel

/-! ## The checks -/

theorem chk1_trip : ∀ (L : grid0.Coords) (t : Fin k0_t1_loop.trips), k0_chk1 L t (w5 t) (w6 t) (w6 t) (w8 t) (w9 t) := by
  decide +kernel
theorem chk2_trip : ∀ t : Fin k0_t1_loop.trips, k0_chk2 (w6 t) := by decide +kernel
theorem chk3_trip : ∀ t : Fin k0_t1_loop.trips, k0_chk3 (w6 t) := by decide +kernel
theorem chk4_end : k0_chk4 (w8 5) := by decide +kernel
theorem chk5_end : ∀ L : grid0.Coords, k0_chk5 L 0#32 (w9 5) := by decide +kernel

/-! ## The conditions -/

theorem cond1_iff : ∀ (L : grid0.Coords) (t : Fin k0_t1_loop.trips), k0_cond1 L t (w9 t) = 1#1 ↔ t.val < 4 := by decide +kernel
theorem cond2_trip : ∀ (L : grid0.Coords) (t : Fin k0_t1_loop.trips), k0_cond2 L t (w9 t) = 1#1 := by decide +kernel
theorem cond5_trip : ∀ (L : grid0.Coords) (t : Fin k0_t1_loop.trips), k0_cond5 L t (w9 t) = 1#1 := by decide +kernel
theorem cond7_iff : ∀ (L : grid0.Coords) (t : Fin k0_t1_loop.trips), k0_cond7 L t (w9 t) = 1#1 ↔ 0 < t.val := by decide +kernel

/-! ## The transfers' slots, semaphores and blocks -/

theorem off1_eq : k0_off1 = slotOff 0 := by decide +kernel
theorem off2_eq : ∀ L : grid0.Coords, k0_off2 L = blkOff L 0 := by decide +kernel
theorem off3_eq : k0_off3 = semOff 0 := by decide +kernel
theorem off4_eq : ∀ t : Fin k0_t1_loop.trips, t.val < 4 → k0_off4 (w5 t) = slotOff (t + 1) := by decide +kernel
theorem off5_eq : ∀ (L : grid0.Coords) (t : Fin k0_t1_loop.trips), t.val < 4 → k0_off5 L (w9 t) = blkOff L (t + 1) := by
  decide +kernel
theorem off6_eq : ∀ t : Fin k0_t1_loop.trips, t.val < 4 → k0_off6 (w5 t) = semOff (t + 1) := by decide +kernel
theorem off9_eq : ∀ t : Fin k0_t1_loop.trips, k0_off9 (w6 t) = semOff t := by decide +kernel
theorem off7_eq : ∀ t : Fin k0_t1_loop.trips, k0_off7 (w6 t) = slotOff t := by decide +kernel
theorem off10_eq : ∀ t : Fin k0_t1_loop.trips, k0_off10 (w6 t) = slotOff t := by decide +kernel
theorem off12_eq : ∀ t : Fin k0_t1_loop.trips, k0_off12 (w6 t) = slotOff t := by decide +kernel
theorem off14_eq : ∀ t : Fin k0_t1_loop.trips, k0_off14 (w6 t) = slotOff t := by decide +kernel
theorem off15_eq : ∀ (L : grid0.Coords) (t : Fin k0_t1_loop.trips), k0_off15 L (w9 t) = blkOff L t := by decide +kernel
theorem off16_eq : ∀ t : Fin k0_t1_loop.trips, k0_off16 (w6 t) = semOff t := by decide +kernel
theorem off18_eq : ∀ (L : grid0.Coords) (t : Fin k0_t1_loop.trips), 0 < t.val → k0_off18 L (w9 t) = blkOff L (t - 1) := by
  decide +kernel
theorem off19_eq : ∀ t : Fin k0_t1_loop.trips, k0_off19 (w8 t) = semOff (t - 1) := by decide +kernel
theorem off21_eq : ∀ L : grid0.Coords, k0_off21 L 0#32 (w9 5) = blkOff L 4 := by decide +kernel
theorem off22_eq : k0_off22 (w8 5) = semOff 4 := by decide +kernel

end Cert.Proof.Lookup

end
-- ==== Proof.Dma.lean ====
/-
  A transfer between two 40 × 512 buffers of one tile, started and waited for, with the words it carries.
-/
module

public import proofs.«01_k».proof.Proof.Words

@[expose] public section

set_option maxRecDepth 16384

noncomputable section

namespace Cert.Proof.Lookup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Transfer

variable (d : Dev nD) (L : grid0.Coords) {sp sp' : Space}

/-- The tile holds the buffer, and it reads `Y`. -/
def Has (m : Memref sig .scVector sp S40x512 .i32) (Y : S40x512.Idx → BitVec 32) : sProp 𝕄 :=
  iprop(∃ f : m.view.ty.Contents (Elt F), ⌜m.view.read (Elt F) f = Y⌝ ∗ (m.view.loc (thr d L) ↦[m.view.set]{fullShare} f))

/-- The tile holds the buffer, at some contents. -/
def Any (m : Memref sig .scVector sp S40x512 .i32) : sProp 𝕄 :=
  iprop(∃ f : m.view.ty.Contents (Elt F), m.view.loc (thr d L) ↦[m.view.set]{fullShare} f)

theorem Has.any (m : Memref sig .scVector sp S40x512 .i32) (Y : S40x512.Idx → BitVec 32) :
    (Has d L m Y : sProp 𝕄) ⊢ Any d L m := by
  unfold Has Any
  iintro ⟨%f, -, H⟩
  iexists f
  iexact H

/-- A transfer of the words `Y` is on its way from `src` to `dst`; waiting on `sem` yields both buffers, reading `Y`. -/
def Fly (sem : DmaSem sig) (src : Memref sig .scVector sp S40x512 .i32) (dst : Memref sig .scVector sp' S40x512 .i32)
    (Y : S40x512.Idx → BitVec 32) : sProp 𝕄 :=
  Transfers.Flight countersEmb (thr d L) (.dma sem) (none : HIx 1) dst.view.dmaCredit iprop(Has d L dst Y ∗ Has d L src Y)

/-- What the tile owes is `O`, and it has waited for nothing but its own transfers beside `W`. -/
def Owe (O : CellTallies nD τ sig (HIx 1)) (W : Waits sig (HIx 1)) : sProp 𝕄 :=
  iprop(∃ W' : Waits sig (HIx 1), ⌜∀ p ∈ W', p ∈ W ∨ p.2 = none ∨ p.2 = some (0 : Fin 1)⌝ ∗ owes (thr d L) O W')

/-- What a landed transfer leaves: the destination rewritten with what the source reads. -/
theorem Has.written (src : Memref sig .scVector sp S40x512 .i32) (dst : Memref sig .scVector sp' S40x512 .i32)
    (Y : S40x512.Idx → BitVec 32) (fs : src.view.ty.Contents (Elt F)) (fd : dst.view.ty.Contents (Elt F))
    (hfs : src.view.read (Elt F) fs = Y) :
    (iprop((dst.view.loc (thr d L) ↦[dst.view.set]{fullShare} dst.view.write (Elt F) fd (src.view.read (Elt F) fs) Finset.univ)
        ∗ (src.view.loc (thr d L) ↦[src.view.set]{fullShare} fs)) : sProp 𝕄)
      ⊢ iprop(Has d L dst Y ∗ Has d L src Y) := by
  unfold Has
  iintro ⟨Hd, Hs⟩
  isplitl [Hd]
  · iexists (dst.view.write (Elt F) fd (src.view.read (Elt F) fs) Finset.univ)
    isplitr
    · ipureintro
      exact (View.read_write_univ ..).trans hfs
    · iexact Hd
  · iexists fs
    isplitr
    · ipureintro; exact hfs
    · iexact Hs

variable [FloatOps F]

/-- Starting a transfer. -/
theorem send {src src' : Memref sig .scVector sp S40x512 .i32} {dst dst' : Memref sig .scVector sp' S40x512 .i32}
    {sem sem' : DmaSem sig} (es : src = src') (ed : dst = dst') (em : sem = sem') {hsrc : src.view.WordExact}
    {hdst : dst.view.WordExact} {hsem : DmaTarget.Typed sp (.dma sem) (.here dst : DmaTarget nD τ sig (.scVector (cV L) (jV L)) sp' S40x512 .i32)} (Y : S40x512.Idx → BitVec 32)
    {Q : PUnit → sProp 𝕄} :
    iprop(Has d L src' Y ∗ Any d L dst' ∗ semVal (thr d L, .dma sem') 0)
      ⊢ iprop((Fly d L sem' src' dst' Y -∗ Q ⟨⟩)
        -∗ wp frame (wpE (defs₀ (F := F)) 𝒱₀ (thr d L) none) Set.univ
            (Prog.lift (.enqueueDma src (.here dst) (.dma sem) hsrc hdst hsem)) Q) := by
  subst es ed em
  unfold Has Any
  iintro ⟨⟨%fs, %hfs, Hs⟩, ⟨%fd, Hd⟩, Hv⟩ HK
  iapply (Transfers.wp_dmaLocal countersEmb 𝒱₀ (thr d L) none (none : HIx 1) dst.view.dmaCredit rfl
    (dst.view.dmaCredit_pos (show 0 < S40x512.numel by decide)) subset_rfl) $$ [Hs Hd Hv]
  · isplitl [Hs]; · iexact Hs
    isplitl [Hd]; · iexact Hd
    iexact Hv
  iintro HF
  rw [wp_ret]
  imodintro
  iapply HK
  unfold Fly
  iapply (Transfers.Flight_mono countersEmb (thr d L) (Has.written d L src dst Y fs fd hfs)) $$ HF

/-- Waiting for it. -/
theorem recv {sem sem' : DmaSem sig} (em : sem = sem') {src : Memref sig .scVector sp S40x512 .i32}
    {dst : Memref sig .scVector sp' S40x512 .i32} {srcw : Memref sig .scVector sp S40x512 .i32}
    {dstw : Memref sig .scVector sp' S40x512 .i32} {hsrc : srcw.view.WordExact} {hdst : dstw.view.WordExact}
    (hN : dstw.view.dmaCredit = dst.view.dmaCredit) (Y : S40x512.Idx → BitVec 32) (O : CellTallies nD τ sig (HIx 1))
    (W : Waits sig (HIx 1)) {Q : PUnit → sProp 𝕄} :
    iprop(Transfers.MayWaits (thr d L) (none : HIx 1) O ∗ Fly d L sem' src dst Y ∗ Owe d L O W)
      ⊢ iprop((iprop(Has d L dst Y ∗ Has d L src Y ∗ semVal (thr d L, .dma sem') 0 ∗ Owe d L O W) -∗ Q ⟨⟩)
        -∗ wp frame (wpE (defs₀ (F := F)) 𝒱₀ (thr d L) none) Set.univ (Prog.lift (.waitDma2 sem srcw dstw hsrc hdst)) Q) := by
  subst em
  unfold Fly Owe
  iintro ⟨Hmw, HF, ⟨%W', %hW', HO⟩⟩ HK
  iapply (Transfers.wp_waitLocalO countersEmb 𝒱₀ (thr d L) none (none : HIx 1) hN) $$ [Hmw HF HO]
  · isplitl [HF]; · iexact HF
    isplitl [HO]; · iexact HO
    iapply (Transfers.MayWaits.elim (SemLoc.dma sem)) $$ Hmw
  iintro ⟨⟨Hd, Hs⟩, Hv, HO⟩
  rw [wp_ret]
  imodintro
  iapply HK
  isplitl [Hd]; · iexact Hd
  isplitl [Hs]; · iexact Hs
  isplitl [Hv]; · iexact Hv
  iexists (insert (SemLoc.dma sem, none) W')
  isplitr
  · ipureintro
    intro p hp
    rcases Finset.mem_insert.mp hp with rfl | hp
    · exact Or.inr (Or.inl rfl)
    · exact hW' p hp
  · iexact HO

end Transfer

end Cert.Proof.Lookup

end
-- ==== Proof.Chunk.lean ====
/-
  The innermost loop's body: sixteen runs of sixteen words, read from a slot of the fetched keys, clamped, and stored at the same
  place of a slot of the results.
-/
module

public import proofs.«01_k».proof.Proof.Setup
public import Idealize.ShloMosaic.Lib.WritesUnit
public import Idealize.ShloMosaic.Lib.Pipeline.Value

@[expose] public section

set_option maxRecDepth 16384

noncomputable section

namespace Cert.Proof.Lookup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The slot of the fetched keys that the word `w` names, as a 40 × 512 buffer. -/
abbrev inM (w : BitVec 32) (h : k0_chk2 w) : Memref sig .scVector .vmem S40x512 .i32 :=
  (bufI.slice (Rect.unit (s := S2x40x512) (k0_off10 w) S1x40x512.size (k0_off10_inb w h)) (fun _ => rfl)).squeeze S40x512
    squeezes_S1x40x512_S40x512

/-- The slot of the results that the word `w` names, as a 40 × 512 buffer. -/
abbrev outM (w : BitVec 32) (h : k0_chk3 w) : Memref sig .scVector .vmem S40x512 .i32 :=
  (bufO.slice (Rect.unit (s := S2x40x512) (k0_off12 w) S1x40x512.size (k0_off12_inb w h)) (fun _ => rfl)).squeeze S40x512
    squeezes_S1x40x512_S40x512

/-! ## One run of sixteen words -/

/-- A run of sixteen words clamped at 1000, as the kernel computes it: flattened, the unsigned minimum taken, shaped back. -/
abbrev clampRun (v : IVec S1x16 32) : IVec S1x16 32 :=
  shapeCast S1x16 (minui (shapeCast S16 v shapeCasts_S1x16_S16) k0_pay35) shapeCasts_S16_S1x16

theorem clampRun_apply (v : IVec S1x16 32) (x : S1x16.Idx) : clampRun v x = clampW (v x) := by
  show IntOp.minui (shapeCast S1x16 (shapeCast S16 v shapeCasts_S1x16_S16) shapeCasts_S16_S1x16 x) 1000#32 = _
  rw [shapeCast_shapeCast]
  rfl

/-- The sixteen places of row `t2`, half `t3`, that one trip fills: run `u` is columns 256 t3 + 16 u onwards. -/
abbrev runRect (t2 : Fin k0_t2_loop.trips) (t3 : Fin k0_t3_loop.trips) (u : Fin 16) : Rect S40x512 :=
  Rect.unit (s := S40x512) (k0_off13 t2 t3 (BitVec.ofNat 32 (16 * u.val))) S1x16.size (k0_off13_inb t2 t3 u)

/-- The store of run `u`: the words read at the same place of the slot `m`, clamped. -/
abbrev runPiece (m : Memref sig .scVector .vmem S40x512 .i32) (g : m.view.ty.Contents (Elt F)) (t2 : Fin k0_t2_loop.trips)
    (t3 : Fin k0_t3_loop.trips) (u : Fin 16) : View.Piece (Elt F) S40x512 .i32 :=
  ⟨runRect t2 t3 u, clampRun ((m.access (Rect.unit (s := S40x512) (k0_off11 t2 t3 (BitVec.ofNat 32 (16 * u.val))) S1x16.size
    (k0_off11_inb t2 t3 u))).read (Elt F) g)⟩

/-- The sixteen stores of one trip, the last first. -/
abbrev runPieces (m : Memref sig .scVector .vmem S40x512 .i32) (g : m.view.ty.Contents (Elt F)) (t2 : Fin k0_t2_loop.trips)
    (t3 : Fin k0_t3_loop.trips) : List (View.Piece (Elt F) S40x512 .i32) :=
  (List.finRange 16).reverse.map (runPiece m g t2 t3)

theorem off11_eq_off13 (t2 : Fin k0_t2_loop.trips) (t3 : Fin k0_t3_loop.trips) (u : Fin 16) :
    k0_off11 t2 t3 (BitVec.ofNat 32 (16 * u.val)) = k0_off13 t2 t3 (BitVec.ofNat 32 (16 * u.val)) :=
  (k0_off11_eq t2 t3 u).trans (k0_off13_eq t2 t3 u).symm

/-- Each store writes at every index the clamped word that the keys' slot has there. -/
theorem runPiece_val (m : Memref sig .scVector .vmem S40x512 .i32) (g : m.view.ty.Contents (Elt F)) (t2 : Fin k0_t2_loop.trips)
    (t3 : Fin k0_t3_loop.trips) (u : Fin 16) (x : (runRect t2 t3 u).shape.Idx) :
    (runPiece m g t2 t3 u).2 x = clampW (m.view.read (Elt F) g ((runRect t2 t3 u).emb x)) := by
  have key : ∀ (o o' : Fin 2 → ℕ) (h : ∀ a, o a + S1x16.size a ≤ S40x512.size a) (h' : ∀ a, o' a + S1x16.size a ≤ S40x512.size a)
      (_ : o = o') (x : S1x16.Idx),
      clampRun ((m.access (Rect.unit (s := S40x512) o S1x16.size h)).read (Elt F) g) x
        = clampW (m.view.read (Elt F) g ((Rect.unit (s := S40x512) o' S1x16.size h').emb x)) := by
    rintro o _ h h' rfl x
    rw [clampRun_apply]
    rfl
  exact key _ _ _ _ (off11_eq_off13 t2 t3 u) x

/-- Run `u` of row `t2`, half `t3` holds the indices of that row whose column lies in the run. -/
theorem mem_runRect (t2 : Fin k0_t2_loop.trips) (t3 : Fin k0_t3_loop.trips) (u : Fin 16) (y : S40x512.Idx) :
    y ∈ (runRect t2 t3 u).set ↔
      (y 0).val = t2.val ∧ 256 * t3.val + 16 * u.val ≤ (y 1).val ∧ (y 1).val < 256 * t3.val + 16 * u.val + 16 := by
  have e := k0_off13_eq t2 t3 u
  have e0 := congrFun e 0
  have e1 := congrFun e 1
  rw [Rect.mem_set_unit]
  refine (Fin.forall_fin_two (p := fun a => k0_off13 t2 t3 (BitVec.ofNat 32 (16 * u.val)) a ≤ (y a).val
    ∧ (y a).val < k0_off13 t2 t3 (BitVec.ofNat 32 (16 * u.val)) a + S1x16.size a)).trans ?_
  rw [e0, e1]
  show (t2.val ≤ (y 0).val ∧ (y 0).val < t2.val + 1) ∧ (256 * t3.val + 16 * u.val ≤ (y 1).val
    ∧ (y 1).val < 256 * t3.val + 16 * u.val + 16) ↔ _
  omega

/-! ## How far the results' slot is filled -/

/-- The first `n` elements of the results' slot, row by row, hold the clamped words `Y`. -/
def Filled (m : Memref sig .scVector .vmem S40x512 .i32) (Y : S40x512.Idx → BitVec 32) (n : ℕ)
    (f : m.view.ty.Contents (Elt F)) : Prop :=
  ∀ y : S40x512.Idx, 512 * (y 0).val + (y 1).val < n → m.view.read (Elt F) f y = clampW (Y y)

/-- One trip's sixteen stores fill 256 elements more. -/
theorem Filled.step (mi mo : Memref sig .scVector .vmem S40x512 .i32) (g : mi.view.ty.Contents (Elt F))
    (f : mo.view.ty.Contents (Elt F)) (t2 : Fin k0_t2_loop.trips) (t3 : Fin k0_t3_loop.trips)
    (h : Filled mo (mi.view.read (Elt F) g) (512 * t2.val + 256 * t3.val) f) :
    Filled mo (mi.view.read (Elt F) g) (512 * t2.val + 256 * (t3.val + 1)) (mo.view.writes (Elt F) f (runPieces mi g t2 t3)) := by
  intro y hy
  have h1 : (y 1).val < 512 := (y 1).isLt
  have h3 : t3.val < 2 := lt_of_lt_of_le t3.isLt k0_t3_abs.2.1
  by_cases hlt : 512 * (y 0).val + (y 1).val < 512 * t2.val + 256 * t3.val
  · rw [View.read_writes_apply_of_forall_not_mem _ _ y, h y hlt]
    intro p hp
    obtain ⟨u, -, rfl⟩ := List.mem_map.mp hp
    have hu := u.isLt
    rw [mem_runRect]
    omega
  · refine View.read_writes_apply_of_pieces _ _ (fun y => clampW (mi.view.read (Elt F) g y)) _ (fun p hp x => ?_) y
      ⟨runPiece mi g t2 t3 ⟨((y 1).val - 256 * t3.val) / 16, by omega⟩,
        List.mem_map.mpr ⟨_, List.mem_reverse.mpr (List.mem_finRange _), rfl⟩, ?_⟩
    · obtain ⟨u, -, rfl⟩ := List.mem_map.mp hp
      exact runPiece_val mi g t2 t3 u x
    · rw [mem_runRect]
      simp only []
      omega

/-! ## The body of the innermost loop, and the two loops around it -/

section Loops

variable [FloatOps F] (d : Dev nD) (L : grid0.Coords) (t1 : Fin k0_t1_loop.trips) (a5 a6 a7 a8 a9 : BitVec 32)
  (h3 : k0_chk3 a7) (h2 : k0_chk2 a6) (h1 : k0_chk1 L t1 a5 a6 a7 a8 a9) (b94 b95 : BitVec 1)
  (w96 w97 w105 w106 w114 w115 : BitVec 32) (g : bufI.view.ty.Contents (Elt F))

/-- The keys' slot at contents `g`, and the results' slot with its first `n` elements done. -/
abbrev Slots (n : ℕ) : sProp 𝕄 :=
  iprop(((inM a6 h2).view.loc (thr d L) ↦[(inM a6 h2).view.set]{fullShare} g)
    ∗ ∃ f : bufO.view.ty.Contents (Elt F), ⌜Filled (outM a7 h3) ((inM a6 h2).view.read (Elt F) g) n f⌝
      ∗ ((outM a7 h3).view.loc (thr d L) ↦[(outM a7 h3).view.set]{fullShare} f))

/-- One trip of the innermost loop fills half a row. -/
theorem chunk_step (t2 : Fin k0_t2_loop.trips) (w211 : BitVec 32) (t3 : Fin k0_t3_loop.trips) :
    (Slots d L a6 a7 h3 h2 g (512 * t2.val + 256 * t3.val))
      ⊢ wp frame (wpE (defs₀ (F := F)) 𝒱₀ (thr d L) none) Set.univ
          (k0_t3_body L xV (Memref.isWhole_whole _) oV (Memref.isWhole_whole _) bufI (Memref.isWhole_whole _) cc0_scoped1 bufO
            (Memref.isWhole_whole _) cc0_scoped3 t1 a5 a6 a7 a8 a9 h3 h2 h1 b94 b95 w96 w97 w105 w106 w114 w115 t2 w211 t3 ⟨⟩)
          fun _ => (Slots d L a6 a7 h3 h2 g (512 * t2.val + 256 * (t3.val + 1))) := by
  unfold k0_t3_body k0_part1 k0_part2 k0_part3 k0_part4 k0_part5 k0_part6
  iintro ⟨HI, %f, %hf, HO⟩
  sl_exec
  rw [wp_ret]
  imodintro
  iframe HI
  iexists ((outM a7 h3).view.writes (Elt F) f (runPieces (inM a6 h2) g t2 t3))
  isplitr
  · ipureintro
    exact hf.step (inM a6 h2) (outM a7 h3) g f t2 t3
  · iexact HO

omit [FloatOps F] in
/-- Slots filled to `n` elements, and to `n'` where the two counts are equal. -/
theorem Slots.of_eq {n n' : ℕ} (h : n = n') :
    (Slots d L a6 a7 h3 h2 g n) ⊢ (Slots d L a6 a7 h3 h2 g n') := by
  subst h; exact BIBase.Entails.rfl

theorem trips_t3 : k0_t3_loop.trips = 2 := by decide +kernel
theorem trips_t2 : k0_t2_loop.trips = 40 := by decide +kernel

/-- A row: its two halves fill 512 elements more. -/
theorem row_step (t2 : Fin k0_t2_loop.trips) :
    (Slots d L a6 a7 h3 h2 g (512 * t2.val))
      ⊢ wp frame (wpE (defs₀ (F := F)) 𝒱₀ (thr d L) none) Set.univ
          (k0_t2_body L xV (Memref.isWhole_whole _) oV (Memref.isWhole_whole _) bufI (Memref.isWhole_whole _) cc0_scoped1 bufO
            (Memref.isWhole_whole _) cc0_scoped3 t1 a5 a6 a7 a8 a9 h3 h2 h1 b94 b95 w96 w97 w105 w106 w114 w115 t2 ⟨⟩)
          fun _ => (Slots d L a6 a7 h3 h2 g (512 * (t2.val + 1))) := by
  unfold k0_t2_body
  iintro HS
  iapply (Scf.wp_for_bind frame (wpE (defs₀ (F := F)) 𝒱₀ (thr d L) none) Set.univ _ _ _ k0_t3_ok () _
    (fun k _ => Slots d L a6 a7 h3 h2 g (512 * t2.val + 256 * k))
    (fun t3 _ => chunk_step d L t1 a5 a6 a7 a8 a9 h3 h2 h1 b94 b95 w96 w97 w105 w106 w114 w115 g t2 _ t3)) $$ [HS]
  · iexact HS
  iintro %_ HS
  rw [wp_pure]
  imodintro
  iapply (Slots.of_eq d L a6 a7 h3 h2 g (by rw [show Scf.trips k0_t3_loop.lb k0_t3_loop.ub k0_t3_loop.st = 2 from trips_t3]; omega)) $$ HS

/-- The whole block: from a results' slot at any contents, the forty rows leave it holding the clamped keys. -/
theorem rows_loop {β : Type} {kk : Unit → Prog (TpuEff nD τ sig (Elt F) Λ₀ (.scVector ((L 0).castLE hcore0) ((L 1).castLE hsub0))) β}
    {Q : β → sProp 𝕄} :
    (Slots d L a6 a7 h3 h2 g 0)
      ⊢ iprop(((Slots d L a6 a7 h3 h2 g 20480) -∗ wp frame (wpE (defs₀ (F := F)) 𝒱₀ (thr d L) none) Set.univ (kk ⟨⟩) Q)
        -∗ wp frame (wpE (defs₀ (F := F)) 𝒱₀ (thr d L) none) Set.univ
          (Scf.Loop.for k0_t2_loop k0_t2_ok ⟨⟩ (k0_t2_body L xV (Memref.isWhole_whole _) oV (Memref.isWhole_whole _) bufI
            (Memref.isWhole_whole _) cc0_scoped1 bufO (Memref.isWhole_whole _) cc0_scoped3 t1 a5 a6 a7 a8 a9 h3 h2 h1 b94 b95
            w96 w97 w105 w106 w114 w115) >>= kk) Q) := by
  iintro HS HK
  iapply (Scf.wp_for_bind frame (wpE (defs₀ (F := F)) 𝒱₀ (thr d L) none) Set.univ _ _ _ k0_t2_ok () _
    (fun k _ => Slots d L a6 a7 h3 h2 g (512 * k))
    (fun t2 _ => row_step d L t1 a5 a6 a7 a8 a9 h3 h2 h1 b94 b95 w96 w97 w105 w106 w114 w115 g t2)) $$ [HS]
  · iexact HS
  iintro %_ HS
  iapply HK
  iapply (Slots.of_eq d L a6 a7 h3 h2 g (by rw [show Scf.trips k0_t2_loop.lb k0_t2_loop.ub k0_t2_loop.st = 40 from trips_t2])) $$ HS

end Loops

end Cert.Proof.Lookup

end
-- ==== Proof.Holdings.lean ====
/-
  What a tile holds between two trips of the pipelined loop: the blocks fetched ahead, the blocks of results on their way out, the
  blocks done; and how those holdings change over one trip.
-/
module

public import proofs.«01_k».proof.Proof.Dma
public import proofs.«01_k».proof.Proof.Chunk

@[expose] public section

set_option maxRecDepth 16384

noncomputable section

namespace Cert.Proof.Lookup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The buffers a transfer names -/

/-- A slot of the fetched keys' double buffer, at offsets `o`. -/
abbrev inAt (o : Fin 3 → ℕ) (h : ∀ a, o a + S1x40x512.size a ≤ S2x40x512.size a) : Memref sig .scVector .vmem S40x512 .i32 :=
  (bufI.slice (Rect.unit (s := S2x40x512) o S1x40x512.size h) (fun _ => rfl)).squeeze S40x512 squeezes_S1x40x512_S40x512
/-- A slot of the results' double buffer, at offsets `o`. -/
abbrev outAt (o : Fin 3 → ℕ) (h : ∀ a, o a + S1x40x512.size a ≤ S2x40x512.size a) : Memref sig .scVector .vmem S40x512 .i32 :=
  (bufO.slice (Rect.unit (s := S2x40x512) o S1x40x512.size h) (fun _ => rfl)).squeeze S40x512 squeezes_S1x40x512_S40x512
/-- A block of the transposed keys, at offsets `o`. -/
abbrev xAt (o : Fin 2 → ℕ) (h : ∀ a, o a + S40x512.size a ≤ S200x16384.size a) : Memref sig .scVector .hbm S40x512 .i32 :=
  xV.slice (Rect.unit (s := S200x16384) o S40x512.size h) (fun _ => rfl)
/-- A block of the transposed result, at offsets `o`. -/
abbrev oAt (o : Fin 2 → ℕ) (h : ∀ a, o a + S40x512.size a ≤ S200x16384.size a) : Memref sig .scVector .hbm S40x512 .i32 :=
  oV.slice (Rect.unit (s := S200x16384) o S40x512.size h) (fun _ => rfl)
/-- One of a pair of semaphores, at offset `o`. -/
abbrev semAt (s : DmaSems sig S2) (o : Fin 1 → ℕ) (h : ∀ a, o a + S1.size a ≤ S2.size a) : DmaSem sig :=
  ((s.slice (Rect.unit (s := S2) o S1.size h)).squeeze S_ squeezes_S1_S_).sem

theorem inAt_congr {o o' : Fin 3 → ℕ} (e : o = o') (h h') : inAt o h = inAt o' h' := by subst e; rfl
theorem outAt_congr {o o' : Fin 3 → ℕ} (e : o = o') (h h') : outAt o h = outAt o' h' := by subst e; rfl
theorem xAt_congr {o o' : Fin 2 → ℕ} (e : o = o') (h h') : xAt o h = xAt o' h' := by subst e; rfl
theorem oAt_congr {o o' : Fin 2 → ℕ} (e : o = o') (h h') : oAt o h = oAt o' h' := by subst e; rfl
theorem semAt_congr (s : DmaSems sig S2) {o o' : Fin 1 → ℕ} (e : o = o') (h h') : semAt s o h = semAt s o' h' := by subst e; rfl

theorem inAt_credit (o o' h h') : (inAt o h).view.dmaCredit = (inAt o' h').view.dmaCredit := rfl
theorem oAt_credit (o o' h h') : (oAt o h).view.dmaCredit = (oAt o' h').view.dmaCredit := rfl

theorem slotOff_congr {k k' : ℕ} (h : k % 2 = k' % 2) : slotOff k = slotOff k' := by rw [slotOff, slotOff, h]
theorem semOff_congr {k k' : ℕ} (h : k % 2 = k' % 2) : semOff k = semOff k' := by rw [semOff, semOff, h]

/-- The slot of the fetched keys that block `k` uses. -/
abbrev inSlot (k : ℕ) : Memref sig .scVector .vmem S40x512 .i32 := inAt (slotOff k) (slotOff_inb k)
/-- The slot of the results that block `k` uses. -/
abbrev outSlot (k : ℕ) : Memref sig .scVector .vmem S40x512 .i32 := outAt (slotOff k) (slotOff_inb k)
/-- The semaphore on which block `k`'s fetch completes. -/
abbrev inSem (k : ℕ) : DmaSem sig := semAt cc0_scoped1 (semOff k) (semOff_inb k)
/-- The semaphore on which block `k`'s write-out completes. -/
abbrev outSem (k : ℕ) : DmaSem sig := semAt cc0_scoped3 (semOff k) (semOff_inb k)
/-- Block `r` of tile `L`'s columns of the transposed keys. -/
abbrev xBlk (L : grid0.Coords) (r : Fin 5) : Memref sig .scVector .hbm S40x512 .i32 := xAt (blkOff L r) (blkOff_inb L r)
/-- Block `r` of tile `L`'s columns of the transposed result. -/
abbrev oBlk (L : grid0.Coords) (r : Fin 5) : Memref sig .scVector .hbm S40x512 .i32 := oAt (blkOff L r) (blkOff_inb L r)

/-! ## The holdings -/

section Holdings

variable (d : Dev nD) (L : grid0.Coords) (X : xV.view.ty.Contents (Elt F))

/-- The keys of block `r`. -/
abbrev keys (r : Fin 5) : S40x512.Idx → BitVec 32 := (xBlk L r).view.read (Elt F) X
/-- The results of block `r`. -/
abbrev vals (r : Fin 5) : S40x512.Idx → BitVec 32 := fun y => clampW (keys L X r y)

/-- A slot of the fetched keys not in use, its semaphore at zero. -/
def InFree (k : ℕ) : sProp 𝕄 := iprop(Any d L (inSlot k) ∗ semVal (thr d L, .dma (inSem k)) 0)
/-- A slot of the results not in use, its semaphore at zero. -/
def OutFree (k : ℕ) : sProp 𝕄 := iprop(Any d L (outSlot k) ∗ semVal (thr d L, .dma (outSem k)) 0)

/-- Before trip `k`: block `k` on its way in, or after the last trip the slot free. -/
def InHead (k : ℕ) : sProp 𝕄 :=
  if h : k < 5 then Fly d L (inSem k) (xBlk L ⟨k, h⟩) (inSlot k) (keys L X ⟨k, h⟩) else InFree d L k

/-- The blocks of keys the tile holds before trip `k`: all but the one on its way in. -/
def XRest (k : ℕ) : sProp 𝕄 :=
  bigSep (Finset.univ.filter fun r : Fin 5 => r.val ≠ k) fun r => Has d L (xBlk L r) (keys L X r)

/-- Before trip `k`: block `k - 1` on its way out, or before the first trip the other slot free. -/
def OutHead : ℕ → sProp 𝕄
  | 0 => OutFree d L 1
  | k + 1 => if h : k < 5 then Fly d L (outSem k) (outSlot k) (oBlk L ⟨k, h⟩) (vals L X ⟨k, h⟩) else iprop(emp)

/-- The blocks of the result the tile holds before trip `k`: those before block `k - 1` done, those from block `k` on not yet
    written. -/
def ORest (k : ℕ) : sProp 𝕄 :=
  bigSep (Finset.univ.filter fun r : Fin 5 => r.val + 1 ≠ k) fun r =>
    if r.val + 1 < k then Has d L (oBlk L r) (vals L X r) else Any d L (oBlk L r)

theorem InFree.congr {k k' : ℕ} (h : k % 2 = k' % 2) : (InFree d L k : sProp 𝕄) = InFree d L k' := by
  unfold InFree
  rw [show inSlot k = inSlot k' from inAt_congr (slotOff_congr h) _ _,
    show inSem k = inSem k' from semAt_congr cc0_scoped1 (semOff_congr h) _ _]

theorem OutFree.congr {k k' : ℕ} (h : k % 2 = k' % 2) : (OutFree d L k : sProp 𝕄) = OutFree d L k' := by
  unfold OutFree
  rw [show outSlot k = outSlot k' from outAt_congr (slotOff_congr h) _ _,
    show outSem k = outSem k' from semAt_congr cc0_scoped3 (semOff_congr h) _ _]

theorem InHead.of_lt {k : ℕ} (h : k < 5) :
    (InHead d L X k : sProp 𝕄) = Fly d L (inSem k) (xBlk L ⟨k, h⟩) (inSlot k) (keys L X ⟨k, h⟩) := dif_pos h
theorem InHead.of_le {k : ℕ} (h : 5 ≤ k) : (InHead d L X k : sProp 𝕄) = InFree d L k := dif_neg (by omega)

theorem OutHead.succ {k : ℕ} (h : k < 5) :
    (OutHead d L X (k + 1) : sProp 𝕄) = Fly d L (outSem k) (outSlot k) (oBlk L ⟨k, h⟩) (vals L X ⟨k, h⟩) := dif_pos h

/-- Before trip `k` the blocks of keys held are block `k + 1` and some others. -/
theorem XRest.next {k : ℕ} (h : k + 1 < 5) :
    (XRest d L X k : sProp 𝕄) = iprop(Has d L (xBlk L ⟨k + 1, h⟩) (keys L X ⟨k + 1, h⟩)
      ∗ bigSep (Finset.univ.filter fun r : Fin 5 => r.val ≠ k ∧ r.val ≠ k + 1) fun r => Has d L (xBlk L r) (keys L X r)) := by
  unfold XRest
  rw [SparseCore.bigSep_erase' (i := (⟨k + 1, h⟩ : Fin 5)) (Finset.mem_filter.mpr ⟨Finset.mem_univ _, by simp⟩)]
  congr 2
  ext r
  simp only [Finset.mem_erase, Finset.mem_filter, Finset.mem_univ, true_and, ne_eq, Fin.ext_iff]
  tauto

/-- Before trip `k + 1` they are block `k` and the same others. -/
theorem XRest.prev {k : ℕ} (h : k < 5) :
    (XRest d L X (k + 1) : sProp 𝕄) = iprop(Has d L (xBlk L ⟨k, h⟩) (keys L X ⟨k, h⟩)
      ∗ bigSep (Finset.univ.filter fun r : Fin 5 => r.val ≠ k ∧ r.val ≠ k + 1) fun r => Has d L (xBlk L r) (keys L X r)) := by
  unfold XRest
  rw [SparseCore.bigSep_erase' (i := (⟨k, h⟩ : Fin 5)) (Finset.mem_filter.mpr ⟨Finset.mem_univ _, by simp⟩)]
  congr 2
  ext r
  simp only [Finset.mem_erase, Finset.mem_filter, Finset.mem_univ, true_and, ne_eq, Fin.ext_iff]

/-- In the last trip there is no block left to fetch ahead. -/
theorem XRest.last {k : ℕ} (h : 5 ≤ k + 1) : (XRest d L X k : sProp 𝕄)
    = bigSep (Finset.univ.filter fun r : Fin 5 => r.val ≠ k ∧ r.val ≠ k + 1) fun r => Has d L (xBlk L r) (keys L X r) := by
  unfold XRest
  have hs : (Finset.univ.filter fun r : Fin 5 => r.val ≠ k) = Finset.univ.filter fun r : Fin 5 => r.val ≠ k ∧ r.val ≠ k + 1 := by
    ext r
    have := r.isLt
    simp only [Finset.mem_filter, Finset.mem_univ, true_and]
    omega
  rw [hs]

/-- Before trip `k` the blocks of the result held are block `k`, not yet written, and some others. -/
theorem ORest.take {k : ℕ} (h : k < 5) :
    (ORest d L X k : sProp 𝕄) = iprop(Any d L (oBlk L ⟨k, h⟩)
      ∗ bigSep (Finset.univ.filter fun r : Fin 5 => r.val + 1 ≠ k ∧ r.val ≠ k) fun r =>
          if r.val + 1 < k then Has d L (oBlk L r) (vals L X r) else Any d L (oBlk L r)) := by
  unfold ORest
  rw [SparseCore.bigSep_erase' (i := (⟨k, h⟩ : Fin 5)) (Finset.mem_filter.mpr ⟨Finset.mem_univ _, by simp⟩)]
  congr 1
  · exact if_neg (by simp)
  · congr 1
    ext r
    simp only [Finset.mem_erase, Finset.mem_filter, Finset.mem_univ, true_and, ne_eq, Fin.ext_iff]
    tauto

/-- Before trip `k + 2` they are block `k`, done, and the others that trip `k + 1` left alone. -/
theorem ORest.put {k : ℕ} (h : k < 5) :
    (ORest d L X (k + 2) : sProp 𝕄) = iprop(Has d L (oBlk L ⟨k, h⟩) (vals L X ⟨k, h⟩)
      ∗ bigSep (Finset.univ.filter fun r : Fin 5 => r.val + 1 ≠ k + 1 ∧ r.val ≠ k + 1) fun r =>
          if r.val + 1 < k + 1 then Has d L (oBlk L r) (vals L X r) else Any d L (oBlk L r)) := by
  unfold ORest
  rw [SparseCore.bigSep_erase' (i := (⟨k, h⟩ : Fin 5)) (Finset.mem_filter.mpr ⟨Finset.mem_univ _, by simp⟩)]
  congr 1
  · exact if_pos (by simp)
  · have hs : (Finset.univ.filter fun r : Fin 5 => r.val + 1 ≠ k + 2).erase ⟨k, h⟩
        = Finset.univ.filter fun r : Fin 5 => r.val + 1 ≠ k + 1 ∧ r.val ≠ k + 1 := by
      ext r
      simp only [Finset.mem_erase, Finset.mem_filter, Finset.mem_univ, true_and, ne_eq, Fin.ext_iff]
      omega
    rw [hs]
    refine bigSep_congr fun r hr => ?_
    have hr' := (Finset.mem_filter.mp hr).2
    by_cases hlt : r.val + 1 < k + 1
    · rw [if_pos hlt, if_pos (by omega)]
    · rw [if_neg hlt, if_neg (by omega)]

/-- Trip 0 has no earlier block to wait for. -/
theorem ORest.put_first :
    (ORest d L X 1 : sProp 𝕄) = bigSep (Finset.univ.filter fun r : Fin 5 => r.val + 1 ≠ 0 ∧ r.val ≠ 0) fun r =>
          if r.val + 1 < 0 then Has d L (oBlk L r) (vals L X r) else Any d L (oBlk L r) := by
  unfold ORest
  have hs : (Finset.univ.filter fun r : Fin 5 => r.val + 1 ≠ 1)
      = Finset.univ.filter fun r : Fin 5 => r.val + 1 ≠ 0 ∧ r.val ≠ 0 := by
    ext r
    simp only [Finset.mem_filter, Finset.mem_univ, true_and, ne_eq]
    omega
  rw [hs]
  refine bigSep_congr fun r hr => ?_
  rw [if_neg (by have := (Finset.mem_filter.mp hr).2; omega), if_neg (by omega)]

/-- `OutHead.succ`, `ORest.put` and `ORest.put_first` at the number of the trip that ends. -/
theorem OutHead.first {k : ℕ} (h : k = 0) : (OutHead d L X k : sProp 𝕄) = OutFree d L (k + 1) := by subst h; rfl

theorem OutHead.later {k : ℕ} (h0 : 0 < k) (h : k - 1 < 5) : (OutHead d L X k : sProp 𝕄)
    = Fly d L (outSem (k - 1)) (outSlot (k - 1)) (oBlk L ⟨k - 1, h⟩) (vals L X ⟨k - 1, h⟩) := by
  obtain ⟨j, rfl⟩ : ∃ j, k = j + 1 := ⟨k - 1, by omega⟩
  exact OutHead.succ d L X h

theorem ORest.first {k : ℕ} (h : k = 0) :
    (ORest d L X (k + 1) : sProp 𝕄) = bigSep (Finset.univ.filter fun r : Fin 5 => r.val + 1 ≠ k ∧ r.val ≠ k) fun r =>
          if r.val + 1 < k then Has d L (oBlk L r) (vals L X r) else Any d L (oBlk L r) := by
  subst h
  exact ORest.put_first d L X

theorem ORest.later {k : ℕ} (h0 : 0 < k) (h : k - 1 < 5) :
    (ORest d L X (k + 1) : sProp 𝕄) = iprop(Has d L (oBlk L ⟨k - 1, h⟩) (vals L X ⟨k - 1, h⟩)
      ∗ bigSep (Finset.univ.filter fun r : Fin 5 => r.val + 1 ≠ k ∧ r.val ≠ k) fun r =>
          if r.val + 1 < k then Has d L (oBlk L r) (vals L X r) else Any d L (oBlk L r)) := by
  obtain ⟨j, rfl⟩ : ∃ j, k = j + 1 := ⟨k - 1, by omega⟩
  exact ORest.put d L X h

end Holdings

end Cert.Proof.Lookup

end
-- ==== Proof.Trip.lean ====
/-
  One trip of the pipelined loop: the next block's fetch is started and this block's waited for; the block is worked on; its results
  are sent and the block before's waited for.
-/
module

public import proofs.«01_k».proof.Proof.Holdings

@[expose] public section

set_option maxRecDepth 16384

noncomputable section

namespace Cert.Proof.Lookup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Trip

variable [FloatOps F] (d : Dev nD) (L : grid0.Coords) (X : xV.view.ty.Contents (Elt F))
  (O : CellTallies nD τ sig (HIx 1)) (W : Waits sig (HIx 1))

/-- The first half of a trip: the next block's fetch is started, if there is one, and this block's waited for. -/
theorem fetch_phase (t : Fin k0_t1_loop.trips) (ht : t.val < 5) (h1 : k0_chk1 L t (w5 t) (w6 t) (w6 t) (w8 t) (w9 t)) (v4 a4 : BitVec 32) (v94 : BitVec 1)
    (v96 v97 v105 v106 v113 v114 v115 : BitVec 32) (v117 : BitVec 1) (v119 : BitVec 32) {Q : BitVec 32 → sProp 𝕄} :
    iprop(Transfers.MayWaits (thr d L) (none : HIx 1) O ∗ InHead d L X t ∗ InFree d L (t + 1) ∗ XRest d L X t ∗ Owe d L O W)
      ⊢ iprop((iprop(Has d L (inSlot t) (keys L X ⟨t, ht⟩) ∗ semVal (thr d L, .dma (inSem t)) 0 ∗ InHead d L X (t + 1)
            ∗ XRest d L X (t + 1) ∗ Owe d L O W)
          -∗ Q (Scalar.select (Scalar.andi (Scalar.andi (Scalar.ori (Scalar.cmpi .ne v96 v114) (Scalar.cmpi .ne v97 v115))
            (Scalar.xori (Scalar.cmpi .sge a4 4#32) 1#1)) 1#1) (Scalar.addi (w5 t) 1#32) (w5 t)))
        -∗ wp frame (wpE (defs₀ (F := F)) 𝒱₀ (thr d L) none) Set.univ
            (k0_part8 L xV (Memref.isWhole_whole _) oV (Memref.isWhole_whole _) bufI (Memref.isWhole_whole _) cc0_scoped1 bufO
              (Memref.isWhole_whole _) cc0_scoped3 v4 t (w5 t) (w6 t) (w6 t) (w8 t) (w9 t) h1 a4 v94 v96 v97 v105 v106 v113 v114 v115
              v117 v119) Q) := by
  rw [k0_part8_eq_skeleton]
  unfold k0_part8_skel
  rw [InHead.of_lt d L X ht, XRest.prev d L X ht]
  dsimp only
  rcases Nat.lt_or_ge (t.val + 1) 5 with hlt | hge
  · rw [dif_pos ((cond1_iff L t).mpr (by omega)), wp_bind, dif_pos (cond2_trip L t), InHead.of_lt d L X hlt, XRest.next d L X hlt]
    unfold InFree
    iintro ⟨#Hmw, HF, ⟨HI, Hv⟩, ⟨Hx, HX⟩, HO⟩ HK
    iapply (send d L (xAt_congr (off5_eq L t (by omega)) _ _) (inAt_congr (off4_eq t (by omega)) _ _)
      (semAt_congr cc0_scoped1 (off6_eq t (by omega)) _ _) (keys L X ⟨t + 1, hlt⟩)) $$ [Hx HI Hv]
    · isplitl [Hx]; · iexact Hx
      isplitl [HI]; · iexact HI
      iexact Hv
    iintro HH
    rw [wp_bind]
    iapply (recv d L (semAt_congr cc0_scoped1 (off9_eq t) _ _) (src := xBlk L ⟨t, ht⟩) (dst := inSlot t) (inAt_credit _ _ _ _)
      (keys L X ⟨t, ht⟩) O W) $$ [HF HO]
    · isplitr; · iexact Hmw
      isplitl [HF]; · iexact HF
      iexact HO
    iintro ⟨Hi, Hx, Hv, HO⟩
    rw [ite_self, wp_pure]
    imodintro
    iapply HK
    isplitl [Hi]; · iexact Hi
    isplitl [Hv]; · iexact Hv
    isplitl [HH]; · iexact HH
    isplitl [Hx HX]
    · isplitl [Hx]; · iexact Hx
      iexact HX
    iexact HO
  · rw [dif_neg (fun h => absurd ((cond1_iff L t).mp h) (by omega)), dif_pos (cond2_trip L t), InHead.of_le d L X hge,
      XRest.last d L X hge, wp_bind]
    iintro ⟨#Hmw, HF, HI, HX, HO⟩ HK
    iapply (recv d L (semAt_congr cc0_scoped1 (off9_eq t) _ _) (src := xBlk L ⟨t, ht⟩) (dst := inSlot t) (inAt_credit _ _ _ _)
      (keys L X ⟨t, ht⟩) O W) $$ [HF HO]
    · isplitr; · iexact Hmw
      isplitl [HF]; · iexact HF
      iexact HO
    iintro ⟨Hi, Hx, Hv, HO⟩
    rw [ite_self, wp_pure]
    imodintro
    iapply HK
    isplitl [Hi]; · iexact Hi
    isplitl [Hv]; · iexact Hv
    isplitl [HI]; · iexact HI
    isplitl [Hx HX]
    · isplitl [Hx]; · iexact Hx
      iexact HX
    iexact HO

/-- The loop over the rows, on a slot of keys and a slot of results: the keys stay, the results read the clamped keys. -/
theorem rows_has (t1 : Fin k0_t1_loop.trips) (a5 a6 a7 a8 a9 : BitVec 32) (h3 : k0_chk3 a7) (h2 : k0_chk2 a6)
    (h1 : k0_chk1 L t1 a5 a6 a7 a8 a9) (b94 b95 : BitVec 1) (w96 w97 w105 w106 w114 w115 : BitVec 32)
    {m m' : Memref sig .scVector .vmem S40x512 .i32} (ei : inM a6 h2 = m) (eo : outM a7 h3 = m') (Y : S40x512.Idx → BitVec 32)
    {β : Type} {kk : Unit → Prog (TpuEff nD τ sig (Elt F) Λ₀ (.scVector ((L 0).castLE hcore0) ((L 1).castLE hsub0))) β}
    {Q : β → sProp 𝕄} :
    iprop(Has d L m Y ∗ Any d L m')
      ⊢ iprop((iprop(Has d L m Y ∗ Has d L m' (fun y => clampW (Y y)))
          -∗ wp frame (wpE (defs₀ (F := F)) 𝒱₀ (thr d L) none) Set.univ (kk ⟨⟩) Q)
        -∗ wp frame (wpE (defs₀ (F := F)) 𝒱₀ (thr d L) none) Set.univ
          (Scf.Loop.for k0_t2_loop k0_t2_ok ⟨⟩ (k0_t2_body L xV (Memref.isWhole_whole _) oV (Memref.isWhole_whole _) bufI
            (Memref.isWhole_whole _) cc0_scoped1 bufO (Memref.isWhole_whole _) cc0_scoped3 t1 a5 a6 a7 a8 a9 h3 h2 h1 b94 b95
            w96 w97 w105 w106 w114 w115) >>= kk) Q) := by
  subst ei eo
  unfold Has Any
  iintro ⟨⟨%g, %hg, Hi⟩, ⟨%f, Hf⟩⟩ HK
  iapply (rows_loop d L t1 a5 a6 a7 a8 a9 h3 h2 h1 b94 b95 w96 w97 w105 w106 w114 w115 g) $$ [Hi Hf]
  · isplitl [Hi]; · iexact Hi
    iexists f
    isplitr
    · ipureintro
      intro y hy
      exact absurd hy (Nat.not_lt_zero _)
    · iexact Hf
  iintro ⟨Hi, %f', %hf, Hf⟩
  iapply HK
  isplitl [Hi]
  · iexists g
    isplitr
    · ipureintro; exact hg
    · iexact Hi
  · iexists f'
    isplitr
    · ipureintro
      subst hg
      funext y
      refine hf y ?_
      have h0 : (y 0).val < 40 := (y 0).isLt
      have h1 : (y 1).val < 512 := (y 1).isLt
      omega
    · iexact Hf

/-- The second half of a trip: the block's results are computed and sent, and the block before, if there is one, is waited for. -/
theorem work_phase (t : Fin k0_t1_loop.trips) (ht : t.val < 5) (h3 : k0_chk3 (w6 t)) (h2 : k0_chk2 (w6 t))
    (h1 : k0_chk1 L t (w5 t) (w6 t) (w6 t) (w8 t) (w9 t)) (v94 v95 : BitVec 1) (v96 v97 v105 v106 v114 v115 : BitVec 32)
    {Q : (Σ' (_ : BitVec 32), BitVec 32) → sProp 𝕄} :
    iprop(Transfers.MayWaits (thr d L) (none : HIx 1) O ∗ Has d L (inSlot t) (keys L X ⟨t, ht⟩) ∗ OutFree d L t ∗ OutHead d L X t
        ∗ ORest d L X t ∗ Owe d L O W)
      ⊢ iprop((iprop(Has d L (inSlot t) (keys L X ⟨t, ht⟩) ∗ OutFree d L (t + 1) ∗ OutHead d L X (t + 1)
            ∗ ORest d L X (t + 1) ∗ Owe d L O W)
          -∗ Q ⟨Scalar.select (Scalar.andi (Scalar.ori (Scalar.ori (Scalar.cmpi .ne v96 v114) (Scalar.cmpi .ne v97 v115)) v95) 1#1)
              (Scalar.addi (w6 t) 1#32) (w6 t),
            Scalar.select (Scalar.andi (Scalar.andi (Scalar.ori (Scalar.cmpi .ne v96 v105) (Scalar.cmpi .ne v97 v106))
              (Scalar.xori v94 1#1)) 1#1) (Scalar.addi (w8 t) 1#32) (w8 t)⟩)
        -∗ wp frame (wpE (defs₀ (F := F)) 𝒱₀ (thr d L) none) Set.univ
            (k0_part9 L xV (Memref.isWhole_whole _) oV (Memref.isWhole_whole _) bufI (Memref.isWhole_whole _) cc0_scoped1 bufO
              (Memref.isWhole_whole _) cc0_scoped3 t (w5 t) (w6 t) (w6 t) (w8 t) (w9 t) h3 h2 h1 v94 v95 v96 v97 v105 v106 v114
              v115) Q) := by
  rw [k0_part9_eq_skeleton]
  unfold k0_part9_skel
  rw [OutHead.succ d L X ht, ORest.take d L X ht]
  dsimp only
  simp only [ite_self]
  rw [dif_pos (cond5_trip L t), OutFree]
  rcases Nat.eq_zero_or_pos t.val with h0 | hpos
  · rw [dif_neg (fun h => absurd ((cond7_iff L t).mp h) (by omega)), OutHead.first d L X h0, ORest.first d L X h0]
    iintro ⟨#Hmw, Hi, ⟨Ho, Hv⟩, HF, ⟨Hb, HR⟩, HO⟩ HK
    iapply (rows_has d L t (w5 t) (w6 t) (w6 t) (w8 t) (w9 t) h3 h2 h1 v94 v95 v96 v97 v105 v106 v114 v115
      (inAt_congr (off10_eq t) _ _) (outAt_congr (off12_eq t) _ _) (keys L X ⟨t, ht⟩)) $$ [Hi Ho]
    · isplitl [Hi]; · iexact Hi
      iexact Ho
    iintro ⟨Hi, Ho⟩
    rw [wp_bind]
    iapply (send d L (outAt_congr (off14_eq t) _ _) (oAt_congr (off15_eq L t) _ _)
      (semAt_congr cc0_scoped3 (off16_eq t) _ _) (vals L X ⟨t, ht⟩)) $$ [Ho Hb Hv]
    · isplitl [Ho]; · iexact Ho
      isplitl [Hb]; · iexact Hb
      iexact Hv
    iintro HH
    rw [wp_pure]
    imodintro
    iapply HK
    isplitl [Hi]; · iexact Hi
    isplitl [HF]; · iexact HF
    isplitl [HH]; · iexact HH
    isplitl [HR]; · iexact HR
    iexact HO
  · rw [dif_pos ((cond7_iff L t).mpr hpos), OutHead.later d L X hpos (by omega), ORest.later d L X hpos (by omega),
      OutFree.congr d L (show (t.val + 1) % 2 = (t.val - 1) % 2 by omega), OutFree]
    iintro ⟨#Hmw, Hi, ⟨Ho, Hv⟩, HF, ⟨Hb, HR⟩, HO⟩ HK
    iapply (rows_has d L t (w5 t) (w6 t) (w6 t) (w8 t) (w9 t) h3 h2 h1 v94 v95 v96 v97 v105 v106 v114 v115
      (inAt_congr (off10_eq t) _ _) (outAt_congr (off12_eq t) _ _) (keys L X ⟨t, ht⟩)) $$ [Hi Ho]
    · isplitl [Hi]; · iexact Hi
      iexact Ho
    iintro ⟨Hi, Ho⟩
    rw [wp_bind]
    iapply (send d L (outAt_congr (off14_eq t) _ _) (oAt_congr (off15_eq L t) _ _)
      (semAt_congr cc0_scoped3 (off16_eq t) _ _) (vals L X ⟨t, ht⟩)) $$ [Ho Hb Hv]
    · isplitl [Ho]; · iexact Ho
      isplitl [Hb]; · iexact Hb
      iexact Hv
    iintro HH
    rw [wp_bind]
    iapply (recv d L (semAt_congr cc0_scoped3 (off19_eq t) _ _) (src := outSlot (t - 1)) (dst := oBlk L ⟨t - 1, by omega⟩)
      (oAt_credit _ _ _ _) (vals L X ⟨t - 1, by omega⟩) O W) $$ [HF HO]
    · isplitr; · iexact Hmw
      isplitl [HF]; · iexact HF
      iexact HO
    iintro ⟨Hb, Ho, Hv, HO⟩
    rw [wp_pure]
    imodintro
    iapply HK
    isplitl [Hi]; · iexact Hi
    isplitl [Ho Hv]
    · isplitl [Ho]; · iapply (Has.any d L (outSlot (t.val - 1)) _) $$ Ho
      iexact Hv
    isplitl [HH]; · iexact HH
    isplitl [Hb HR]
    · isplitl [Hb]; · iexact Hb
      iexact HR
    iexact HO

end Trip

end Cert.Proof.Lookup

end
-- ==== Proof.Loop.lean ====
/-
  The pipelined loop: what holds before each of its trips, and that a trip carries it on.
-/
module

public import proofs.«01_k».proof.Proof.Trip

@[expose] public section

set_option maxRecDepth 16384

noncomputable section

namespace Cert.Proof.Lookup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The number of the tile as the kernel computes it. -/
abbrev tileW (L : grid0.Coords) : BitVec 32 :=
  Scalar.muli (Scalar.addi (Scalar.addi 0#32 (Scalar.muli (BitVec.ofNat 32 (L 1).val) 1#32))
    (Scalar.muli (BitVec.ofNat 32 (L 0).val) 16#32)) 1#32

/-- The loop's six carried words before trip `k`. -/
abbrev words (k : ℕ) : BitVec 32 × BitVec 32 × BitVec 32 × BitVec 32 × BitVec 32 × BitVec 32 :=
  (w5 k, w6 k, w6 k, w8 k, w9 k, 0#32)

/-- The block before trip `t`'s, round the five. -/
abbrev prevB (t : ℕ) : BitVec 32 :=
  Scalar.addi (Scalar.select (Scalar.cmpi .eq (Scalar.select (Scalar.cmpi .eq (Scalar.select 1#1 4294967295#32 0#32) 4294967295#32)
    (Scalar.subi (w9 t) 1#32) (w9 t)) 4294967295#32) 4#32 (Scalar.select (Scalar.cmpi .eq (Scalar.select 1#1 4294967295#32 0#32)
    4294967295#32) (Scalar.subi (w9 t) 1#32) (w9 t))) 0#32
/-- The block after trip `t`'s before it is taken round. -/
abbrev nextB₀ (t : ℕ) : BitVec 32 :=
  Scalar.select (Scalar.cmpi .eq (Scalar.select 1#1 1#32 0#32) 1#32) (Scalar.addi (w9 t) 1#32) (w9 t)
/-- The block after trip `t`'s, round the five. -/
abbrev nextB (t : ℕ) : BitVec 32 := Scalar.select (Scalar.cmpi .eq (nextB₀ t) 5#32) 0#32 (nextB₀ t)

/-- Whether trip `t`'s block and the one after it, or the one before it, are different blocks: the kernel compares the two pairs
    of block indices. -/
abbrev newNext (L : grid0.Coords) (t : ℕ) : BitVec 1 :=
  Scalar.ori (Scalar.cmpi .ne (Scalar.addi (w9 t) 0#32) (Scalar.addi (nextB t) 0#32))
    (Scalar.cmpi .ne (Scalar.addi 0#32 (tileW L)) (Scalar.addi 0#32 (tileW L)))
abbrev newPrev (L : grid0.Coords) (t : ℕ) : BitVec 1 :=
  Scalar.ori (Scalar.cmpi .ne (Scalar.addi (w9 t) 0#32) (prevB t))
    (Scalar.cmpi .ne (Scalar.addi 0#32 (tileW L)) (Scalar.addi 0#32 (tileW L)))

/-- The words a trip hands on are those the next one starts from. -/
theorem words_next : ∀ (L : grid0.Coords) (t : Fin k0_t1_loop.trips),
    ((Scalar.select (Scalar.andi (Scalar.andi (newNext L t) (Scalar.xori (Scalar.cmpi .sge (Scf.iv 0#32 1#32 t) 4#32) 1#1)) 1#1)
        (Scalar.addi (w5 t) 1#32) (w5 t),
      Scalar.select (Scalar.ori (newNext L t) (Scalar.cmpi .eq (Scf.iv 0#32 1#32 t) 4#32)) (Scalar.addi (w6 t) 1#32) (w6 t),
      Scalar.select (Scalar.andi (Scalar.ori (newNext L t) (Scalar.cmpi .eq (Scf.iv 0#32 1#32 t) 4#32)) 1#1)
        (Scalar.addi (w6 t) 1#32) (w6 t),
      Scalar.select (Scalar.andi (Scalar.andi (newPrev L t) (Scalar.xori (Scalar.cmpi .eq (Scf.iv 0#32 1#32 t) 0#32) 1#1)) 1#1)
        (Scalar.addi (w8 t) 1#32) (w8 t),
      nextB t, 0#32) : BitVec 32 × BitVec 32 × BitVec 32 × BitVec 32 × BitVec 32 × BitVec 32) = words (t + 1) := by
  decide +kernel

section Loop

variable [FloatOps F] (d : Dev nD) (L : grid0.Coords) (X : xV.view.ty.Contents (Elt F))
  (O : CellTallies nD τ sig (HIx 1)) (W : Waits sig (HIx 1))

/-- What the tile holds before trip `k` of the pipelined loop. -/
def Inv (k : ℕ) (acc : BitVec 32 × BitVec 32 × BitVec 32 × BitVec 32 × BitVec 32 × BitVec 32) : sProp 𝕄 :=
  iprop(⌜acc = words k⌝ ∗ Transfers.MayWaits (thr d L) (none : HIx 1) O ∗ InHead d L X k ∗ InFree d L (k + 1) ∗ XRest d L X k
    ∗ OutFree d L k ∗ OutHead d L X k ∗ ORest d L X k ∗ Owe d L O W)

/-- The words a trip computes first, the checks passed. -/
theorem words_phase (t : Fin k0_t1_loop.trips) (v4 : BitVec 32) {Q} (P : sProp 𝕄)
    (hP : ∀ (h3 : k0_chk3 (w6 t)) (h2 : k0_chk2 (w6 t)) (h1 : k0_chk1 L t (w5 t) (w6 t) (w6 t) (w8 t) (w9 t)),
      P ⊢ Q ⟨h3, h2, h1, Scf.iv 0#32 1#32 t, Scalar.cmpi .eq (Scf.iv 0#32 1#32 t) 0#32, Scalar.cmpi .eq (Scf.iv 0#32 1#32 t) 4#32,
        Scalar.addi (w9 t) 0#32, Scalar.addi 0#32 v4, prevB t, Scalar.addi 0#32 v4, nextB t, Scalar.addi (nextB t) 0#32,
        Scalar.addi 0#32 v4, Scalar.cmpi .eq (Scalar.select 1#1 1#32 0#32) 1#32, Scalar.addi (nextB t) 1#32⟩) :
    P ⊢ wp frame (wpE (defs₀ (F := F)) 𝒱₀ (thr d L) none) Set.univ
      (k0_part7 L xV (Memref.isWhole_whole _) oV (Memref.isWhole_whole _) bufI (Memref.isWhole_whole _) cc0_scoped1 bufO
        (Memref.isWhole_whole _) cc0_scoped3 v4 0#32 1#32 t (w5 t) (w6 t) (w6 t) (w8 t) (w9 t)) Q := by
  rw [k0_part7_eq_skeleton]
  unfold k0_part7_skel
  rw [Prog.bind_lift, wp_assume_of 𝒱₀ (thr d L) none Set.univ (chk3_trip t), Prog.bind_lift,
    wp_assume_of 𝒱₀ (thr d L) none Set.univ (chk2_trip t), Prog.bind_lift,
    wp_assume_of 𝒱₀ (thr d L) none Set.univ (chk1_trip L t), wp_pure]
  iintro H
  imodintro
  iapply (hP (chk3_trip t) (chk2_trip t) (chk1_trip L t)) $$ H

/-- One trip. -/
theorem trip_step (t : Fin k0_t1_loop.trips) (acc : BitVec 32 × BitVec 32 × BitVec 32 × BitVec 32 × BitVec 32 × BitVec 32)
    (v7 v21 : BitVec 32) (v25 : BitVec 1) (c1 : BitVec 32) :
    (Inv d L X O W t acc : sProp 𝕄) ⊢ wp frame (wpE (defs₀ (F := F)) 𝒱₀ (thr d L) none) Set.univ
      (k0_t1_body L xV (Memref.isWhole_whole _) oV (Memref.isWhole_whole _) bufI (Memref.isWhole_whole _) cc0_scoped1 bufO
        (Memref.isWhole_whole _) cc0_scoped3 (tileW L) v7 v21 v25 c1 t acc) (Inv d L X O W (t + 1)) := by
  have ht : t.val < 5 := lt_of_lt_of_eq t.isLt trips_t1
  by_cases hacc : acc = words t
  swap
  · unfold Inv
    iintro ⟨%h, -⟩
    exact absurd h hacc
  subst hacc
  unfold k0_t1_body
  dsimp only
  rw [wp_bind]
  refine words_phase d L t (tileW L) _ (fun h3 h2 h1 => ?_)
  dsimp only
  rw [wp_bind, Inv]
  iintro ⟨-, #Hmw, HF, HI, HX, HOf, HOh, HR, HO⟩
  iapply (fetch_phase d L X O W t ht h1) $$ [HF HI HX HO]
  · isplitr; · iexact Hmw
    isplitl [HF]; · iexact HF
    isplitl [HI]; · iexact HI
    isplitl [HX]; · iexact HX
    iexact HO
  iintro ⟨Hi, Hv, HF, HX, HO⟩
  rw [wp_bind]
  iapply (work_phase d L X O W t ht h3 h2 h1) $$ [Hi HOf HOh HR HO]
  · isplitr; · iexact Hmw
    isplitl [Hi]; · iexact Hi
    isplitl [HOf]; · iexact HOf
    isplitl [HOh]; · iexact HOh
    isplitl [HR]; · iexact HR
    iexact HO
  iintro ⟨Hi, HOf, HOh, HR, HO⟩
  rw [wp_pure]
  imodintro
  unfold Inv
  isplitr
  · ipureintro
    exact words_next L t
  isplitr; · iexact Hmw
  isplitl [HF]; · iexact HF
  isplitl [Hi Hv]
  · rw [InFree.congr d L (show (t.val + 1 + 1) % 2 = t.val % 2 by omega), InFree]
    isplitl [Hi]; · iapply (Has.any d L (inSlot t.val) _) $$ Hi
    iexact Hv
  isplitl [HX]; · iexact HX
  isplitl [HOf]; · iexact HOf
  isplitl [HOh]; · iexact HOh
  isplitl [HR]; · iexact HR
  iexact HO

end Loop

end Cert.Proof.Lookup

end
-- ==== Proof.Tile.lean ====
/-
  The kernel's whole body on one tile: the first fetch, the five trips, the last wait.
-/
module

public import proofs.«01_k».proof.Proof.Loop

@[expose] public section

set_option maxRecDepth 16384

noncomputable section

namespace Cert.Proof.Lookup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Tile

variable (d : Dev nD) (L : grid0.Coords) (X : xV.view.ty.Contents (Elt F))
  (O : CellTallies nD τ sig (HIx 1)) (W : Waits sig (HIx 1))

/-- All five blocks of the tile's keys. -/
def XAll : sProp 𝕄 := bigSep (Finset.univ : Finset (Fin 5)) fun r => Has d L (xBlk L r) (keys L X r)
/-- All five blocks of the tile's part of the result, at some contents. -/
def OAny : sProp 𝕄 := bigSep (Finset.univ : Finset (Fin 5)) fun r => Any d L (oBlk L r)
/-- All five blocks of the tile's part of the result, reading the clamped keys. -/
def OAll : sProp 𝕄 := bigSep (Finset.univ : Finset (Fin 5)) fun r => Has d L (oBlk L r) (vals L X r)

theorem XAll.first : (XAll d L X : sProp 𝕄) = iprop(Has d L (xBlk L 0) (keys L X 0) ∗ XRest d L X 0) := by
  unfold XAll XRest
  rw [SparseCore.bigSep_erase' (i := (0 : Fin 5)) (Finset.mem_univ _),
    show (Finset.univ.filter fun r : Fin 5 => r.val ≠ 0) = Finset.univ.erase 0 by decide +kernel]

theorem XAll.last : (XRest d L X 5 : sProp 𝕄) = XAll d L X := by
  unfold XAll XRest
  rw [Finset.filter_true_of_mem fun r _ => Nat.ne_of_lt r.isLt]

theorem OAny.first : (OAny d L : sProp 𝕄) = ORest d L X 0 := by
  unfold OAny ORest
  rw [Finset.filter_true_of_mem fun r _ => Nat.succ_ne_zero r.val]
  exact bigSep_congr fun r _ => (if_neg (Nat.not_lt_zero _)).symm

theorem OAll.last : (OAll d L X : sProp 𝕄) = iprop(Has d L (oBlk L 4) (vals L X 4) ∗ ORest d L X 5) := by
  unfold OAll ORest
  rw [SparseCore.bigSep_erase' (i := (4 : Fin 5)) (Finset.mem_univ _)]
  rw [show (Finset.univ.filter fun r : Fin 5 => r.val + 1 ≠ 5) = Finset.univ.erase 4 by decide +kernel]
  refine congrArg (BIBase.sep _) (bigSep_congr fun r hr => (if_pos ?_).symm)
  have h1 := (Finset.mem_erase.mp hr).1
  have h2 := r.isLt
  have h3 : r.val ≠ 4 := fun e => h1 (Fin.ext e)
  omega

/-- The trips' carried words are those of the trip's number. -/
theorem Inv.words_eq (k n : ℕ) (h : k = n) (acc : BitVec 32 × BitVec 32 × BitVec 32 × BitVec 32 × BitVec 32 × BitVec 32) :
    (Inv d L X O W k acc : sProp 𝕄) ⊢ iprop(⌜acc = words n⌝ ∗ Inv d L X O W n (words n)) := by
  subst h
  unfold Inv
  iintro ⟨%hacc, H⟩
  isplitr; · ipureintro; exact hacc
  isplitr; · ipureintro; rfl
  iexact H

variable [FloatOps F]

/-- The first fetch and the five trips. -/
theorem trips_phase (v7 v21 : BitVec 32) (v25 : BitVec 1) (c1 : BitVec 32) {Q} :
    iprop(Transfers.MayWaits (thr d L) (none : HIx 1) O ∗ InFree d L 0 ∗ InFree d L 1 ∗ OutFree d L 0 ∗ OutFree d L 1
        ∗ XAll d L X ∗ OAny d L ∗ Owe d L O W)
      ⊢ iprop((∀ (h5 : k0_chk5 L 0#32 (w9 5)) (h4 : k0_chk4 (w8 5)) (v51 : BitVec 32) (v52 : BitVec 1),
          (Inv d L X O W 5 (words 5) -∗ Q ⟨w8 5, w9 5, 0#32, h5, h4, v51, v52, 4#32⟩))
        -∗ wp frame (wpE (defs₀ (F := F)) 𝒱₀ (thr d L) none) Set.univ
            (k0_part11 L xV (Memref.isWhole_whole _) oV (Memref.isWhole_whole _) bufI (Memref.isWhole_whole _) cc0_scoped1 bufO
              (Memref.isWhole_whole _) cc0_scoped3 (tileW L) v7 v21 v25 c1) Q) := by
  rw [k0_part11_eq_skeleton]
  unfold k0_part11_skel
  rw [XAll.first, OAny.first d L X, InFree, wp_bind]
  dsimp only
  iintro ⟨#Hmw, ⟨Hi, Hv⟩, HI, HOf, HOh, ⟨Hx, HX⟩, HR, HO⟩ HK
  iapply (send d L (xAt_congr (off2_eq L) _ _) (inAt_congr off1_eq _ _) (semAt_congr cc0_scoped1 off3_eq _ _) (keys L X 0))
    $$ [Hx Hi Hv]
  · isplitl [Hx]; · iexact Hx
    isplitl [Hi]; · iexact Hi
    iexact Hv
  iintro HF
  iapply (Scf.wp_for_bind frame (wpE (defs₀ (F := F)) 𝒱₀ (thr d L) none) Set.univ _ _ _ k0_t1_ok _ _
    (fun k acc => Inv d L X O W k acc) (fun t acc => trip_step d L X O W t acc v7 v21 v25 c1))
    $$ [HI HOf HOh HX HR HO HF]
  · unfold Inv
    isplitr; · ipureintro; rfl
    isplitr; · iexact Hmw
    rw [InHead.of_lt d L X (k := 0) (by omega), OutHead.first d L X (k := 0) rfl]
    isplitl [HF]; · iexact HF
    isplitl [HI]; · iexact HI
    isplitl [HX]; · iexact HX
    isplitl [HOf]; · iexact HOf
    isplitl [HOh]; · iexact HOh
    isplitl [HR]; · iexact HR
    iexact HO
  iintro %acc HI
  ihave HI' := (Inv.words_eq d L X O W _ 5 trips_t1 acc) $$ HI
  icases HI' with ⟨%hacc, HI⟩
  subst hacc
  iapply (wp_assume 𝒱₀ (thr d L) none Set.univ (chk5_end L))
  iapply (wp_assume 𝒱₀ (thr d L) none Set.univ chk4_end)
  iapply (Entails.of_eq (wp_ret frame (wpE (defs₀ (F := F)) 𝒱₀ (thr d L) none) Set.univ _ _).symm)
  imodintro
  iapply HK $$ HI

/-- The whole body on tile `L`: from its keys and its part of the result at any contents, the result's part reads the clamped
    keys. -/
theorem tile_run :
    iprop(Transfers.MayWaits (thr d L) (none : HIx 1) O ∗ InFree d L 0 ∗ InFree d L 1 ∗ OutFree d L 0 ∗ OutFree d L 1
        ∗ XAll d L X ∗ OAny d L ∗ Owe d L O W)
      ⊢ wp frame (wpE (defs₀ (F := F)) 𝒱₀ (thr d L) none) Set.univ
          (cc0_lookup L xV (Memref.isWhole_whole _) oV (Memref.isWhole_whole _) bufI (Memref.isWhole_whole _) cc0_scoped1 bufO
            (Memref.isWhole_whole _) cc0_scoped3)
          fun _ => iprop(InFree d L 0 ∗ InFree d L 1 ∗ OutFree d L 0 ∗ OutFree d L 1 ∗ XAll d L X ∗ OAll d L X ∗ Owe d L O W) := by
  rw [cc0_lookup_eq_skeleton]
  unfold cc0_lookup_skel
  rw [wp_bind, k0_part10_eq_skeleton]
  unfold k0_part10_skel
  rw [wp_pure]
  iintro ⟨#Hmw, H⟩
  imodintro
  rw [wp_bind]
  iapply (trips_phase d L X O W) $$ [H]
  · isplitr; · iexact Hmw
    iexact H
  iintro %h5 %h4 %v51 %v52 HI
  rw [wp_bind, k0_part12_eq_skeleton]
  unfold k0_part12_skel
  rw [wp_pure]
  imodintro
  unfold Inv
  icases HI with ⟨-, -, HF, HI, HX, HOf, HOh, HR, HO⟩
  rw [wp_bind]
  iapply (recv d L (semAt_congr cc0_scoped3 off22_eq _ _) (src := outSlot 4) (dst := oBlk L 4) (oAt_credit _ _ _ _)
    (vals L X 4) O W) $$ [HOh HO]
  · isplitr; · iexact Hmw
    isplitl [HOh]; · iapply (Entails.of_eq (OutHead.succ d L X (show 4 < 5 by decide))) $$ HOh
    iexact HO
  iintro ⟨Hb, Ho, Hv, HO⟩
  rw [wp_pure]
  imodintro
  rw [← XAll.last, OAll.last, InFree.congr d L (show 0 % 2 = (5 + 1) % 2 by rfl), InFree.congr d L (show 1 % 2 = 5 % 2 by rfl),
    OutFree.congr d L (show 1 % 2 = 5 % 2 by rfl), OutFree.congr d L (show 0 % 2 = 4 % 2 by rfl),
    show (OutFree d L 4 : sProp 𝕄) = iprop(Any d L (outSlot 4) ∗ semVal (thr d L, .dma (outSem 4)) 0) from rfl]
  isplitl [HI]; · iexact HI
  isplitl [HF]; · iapply (Entails.of_eq (InHead.of_le d L X (k := 5) le_rfl)) $$ HF
  isplitl [Ho Hv]
  · isplitl [Ho]; · iapply (Has.any d L (outSlot 4) _) $$ Ho
    iexact Hv
  isplitl [HOf]; · iexact HOf
  isplitl [HX]; · iexact HX
  isplitl [Hb HR]
  · isplitl [Hb]; · iexact Hb
    iexact HR
  iexact HO

end Tile

end Cert.Proof.Lookup

end
-- ==== Proof.Pieces.lean ====
/-
  The arrays cut into the tiles' blocks, the double buffers cut into their slots, and both put together again.
-/
module

public import proofs.«01_k».proof.Proof.Tile

@[expose] public section

set_option maxRecDepth 16384

noncomputable section

namespace Cert.Proof.Lookup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The sets of elements -/

/-- The elements of slot `k` of a double buffer. -/
abbrev slotSet (k : ℕ) : Finset S2x40x512.Idx := (Rect.unit (s := S2x40x512) (slotOff k) S1x40x512.size (slotOff_inb k)).set
/-- The elements of block `r` of tile `L`. -/
abbrev blkSet (L : grid0.Coords) (r : Fin 5) : Finset S200x16384.Idx :=
  (Rect.unit (s := S200x16384) (blkOff L r) S40x512.size (blkOff_inb L r)).set

theorem set_inSlot (k : ℕ) : (inSlot k).view.set = slotSet k := by
  show (((View.whole (cc0_scoped0 : Ref sig .scVector)).slice (Rect.unit (s := S2x40x512) (slotOff k) S1x40x512.size
    (slotOff_inb k))).reshape S40x512 squeezes_S1x40x512_S40x512.numel_eq).set = _
  rw [View.set_reshape]
  exact View.set_slice_whole _ _

theorem set_outSlot (k : ℕ) : (outSlot k).view.set = slotSet k := by
  show (((View.whole (cc0_scoped2 : Ref sig .scVector)).slice (Rect.unit (s := S2x40x512) (slotOff k) S1x40x512.size
    (slotOff_inb k))).reshape S40x512 squeezes_S1x40x512_S40x512.numel_eq).set = _
  rw [View.set_reshape]
  exact View.set_slice_whole _ _

theorem set_xBlk (L : grid0.Coords) (r : Fin 5) : (xBlk L r).view.set = blkSet L r := View.set_slice_whole _ _
theorem set_oBlk (L : grid0.Coords) (r : Fin 5) : (oBlk L r).view.set = blkSet L r := View.set_slice_whole _ _

theorem mem_slotSet {k : ℕ} {i : S2x40x512.Idx} : i ∈ slotSet k ↔ (i 0).val = k % 2 := by
  have h1 : (i 1).val < 40 := (i 1).isLt
  have h2 : (i 2).val < 512 := (i 2).isLt
  rw [Rect.mem_set_unit]
  constructor
  · intro h
    have h0 := h 0
    simp [slotOff, S1x40x512] at h0
    omega
  · intro h a
    match a with
    | 0 => simp [slotOff, S1x40x512]; omega
    | 1 => simp [slotOff, S1x40x512]; omega
    | 2 => simp [slotOff, S1x40x512]; omega

theorem mem_blkSet {L : grid0.Coords} {r : Fin 5} {i : S200x16384.Idx} :
    i ∈ blkSet L r ↔ (i 0).val / 40 = r.val ∧ (i 1).val / 512 = (L 1).val + 16 * (L 0).val := by
  rw [Rect.mem_set_unit]
  constructor
  · intro h
    have h0 := h 0
    have h1 := h 1
    simp [blkOff, S40x512] at h0 h1
    omega
  · rintro ⟨h0, h1⟩ a
    match a with
    | 0 => simp [blkOff, S40x512]; omega
    | 1 => simp [blkOff, S40x512]; omega

theorem slots_disjoint : ∀ k ∈ (Finset.univ : Finset (Fin 2)), ∀ k' ∈ (Finset.univ : Finset (Fin 2)), k ≠ k' →
    Disjoint (slotSet k) (slotSet k') := by
  intro k _ k' _ h
  refine Finset.disjoint_left.mpr fun i hi hi' => h (Fin.ext ?_)
  rw [mem_slotSet] at hi hi'
  omega

theorem slots_cover : (Finset.univ : Finset (Fin 2)).biUnion (fun k => slotSet k) = Finset.univ := by
  refine Finset.eq_univ_of_forall fun i => Finset.mem_biUnion.mpr ⟨⟨(i 0).val, (i 0).isLt⟩, Finset.mem_univ _, ?_⟩
  have h0 : (i 0).val < 2 := (i 0).isLt
  rw [mem_slotSet]
  show (i 0).val = (i 0).val % 2
  omega

/-- The grid point of core `c` and subcore `s`. -/
def tileAt (c : Fin (grid0.bound 0)) (s : Fin (grid0.bound 1)) : grid0.Coords :=
  fun | 0 => c | 1 => s | ⟨_ + 2, h⟩ => absurd h (Nat.not_lt.2 (Nat.le_add_left _ _))

/-- A block's number: its core, its subcore, its place among the subcore's five. -/
abbrev BlkIx : Type := Fin (grid0.bound 0) × Fin (grid0.bound 1) × Fin 5

theorem blks_disjoint : ∀ p ∈ (Finset.univ : Finset BlkIx), ∀ p' ∈ (Finset.univ : Finset BlkIx), p ≠ p' →
    Disjoint (blkSet (tileAt p.1 p.2.1) p.2.2) (blkSet (tileAt p'.1 p'.2.1) p'.2.2) := by
  rintro ⟨c, s, r⟩ _ ⟨c', s', r'⟩ _ h
  refine Finset.disjoint_left.mpr fun i hi hi' => h ?_
  rw [mem_blkSet] at hi hi'
  have hs : s.val < 16 := s.isLt
  have hs' : s'.val < 16 := s'.isLt
  have e := hi.2.symm.trans hi'.2
  have e' := hi.1.symm.trans hi'.1
  change s.val + 16 * c.val = s'.val + 16 * c'.val at e
  exact Prod.ext (Fin.ext (by show c.val = c'.val; omega)) (Prod.ext (Fin.ext (by show s.val = s'.val; omega)) (Fin.ext e'))

theorem blks_cover : (Finset.univ : Finset BlkIx).biUnion (fun p => blkSet (tileAt p.1 p.2.1) p.2.2) = Finset.univ := by
  refine Finset.eq_univ_of_forall fun i => ?_
  have h0 : (i 0).val < 200 := (i 0).isLt
  have h1 : (i 1).val < 16384 := (i 1).isLt
  refine Finset.mem_biUnion.mpr ⟨(⟨(i 1).val / 8192, show (i 1).val / 8192 < 2 by omega⟩,
    ⟨(i 1).val / 512 % 16, show (i 1).val / 512 % 16 < 16 by omega⟩, ⟨(i 0).val / 40, by omega⟩), Finset.mem_univ _, ?_⟩
  rw [mem_blkSet]
  refine ⟨rfl, ?_⟩
  show (i 1).val / 512 = (i 1).val / 512 % 16 + 16 * ((i 1).val / 8192)
  omega

/-! ## The double buffers and their slots -/

section Slots

variable (d : Dev nD) (L : grid0.Coords)

/-- A buffer held at some contents is its two slots, each held at some contents. -/
theorem bufI_slots : (iprop(∃ f, (thr d L).loc cc0_scoped0 ↦{fullShare} f) : sProp 𝕄) ⊢ iprop(Any d L (inSlot 0) ∗ Any d L (inSlot 1)) := by
  unfold Any
  iintro ⟨%f, H⟩
  ihave H' := (Entails.of_eq (show ((thr d L).loc cc0_scoped0 ↦{fullShare} f : sProp 𝕄)
      = iprop(((thr d L).loc cc0_scoped0 ↦[slotSet 0]{fullShare} f) ∗ ((thr d L).loc cc0_scoped0 ↦[slotSet 1]{fullShare} f)) by
    rw [← slots_cover, pointsTo_biUnion Finset.univ (ℓ := (thr d L).loc cc0_scoped0) (fun k : Fin 2 => slotSet k) slots_disjoint,
      bigSep_fin_two]; rfl)) $$ H
  icases H' with ⟨H0, H1⟩
  isplitl [H0]
  · iexists f
    rw [set_inSlot]
    iexact H0
  · iexists f
    rw [set_inSlot]
    iexact H1

theorem bufO_slots : (iprop(∃ f, (thr d L).loc cc0_scoped2 ↦{fullShare} f) : sProp 𝕄) ⊢ iprop(Any d L (outSlot 0) ∗ Any d L (outSlot 1)) := by
  unfold Any
  iintro ⟨%f, H⟩
  ihave H' := (Entails.of_eq (show ((thr d L).loc cc0_scoped2 ↦{fullShare} f : sProp 𝕄)
      = iprop(((thr d L).loc cc0_scoped2 ↦[slotSet 0]{fullShare} f) ∗ ((thr d L).loc cc0_scoped2 ↦[slotSet 1]{fullShare} f)) by
    rw [← slots_cover, pointsTo_biUnion Finset.univ (ℓ := (thr d L).loc cc0_scoped2) (fun k : Fin 2 => slotSet k) slots_disjoint,
      bigSep_fin_two]; rfl)) $$ H
  icases H' with ⟨H0, H1⟩
  isplitl [H0]
  · iexists f
    rw [set_outSlot]
    iexact H0
  · iexists f
    rw [set_outSlot]
    iexact H1

theorem slots_join (ℓ : Loc nD τ sig) (S : Fin 2 → Finset (Idx ℓ)) (hd : ∀ k ∈ (Finset.univ : Finset (Fin 2)),
      ∀ k' ∈ (Finset.univ : Finset (Fin 2)), k ≠ k' → Disjoint (S k) (S k')) (hc : Finset.univ.biUnion S = Finset.univ)
    (f g : Buf (Elt F) ℓ) :
    (iprop((ℓ ↦[S 0]{fullShare} f) ∗ (ℓ ↦[S 1]{fullShare} g)) : sProp 𝕄) ⊢ iprop(∃ f, ℓ ↦{fullShare} f) := by
  have e := pointsTo_biUnion_join (ℓ := ℓ) (q := fullShare) (Val := Elt F) (Ix := HIx 1) (Name := ℕ) (U := UU) (Lvl := ℕ) Finset.univ S ![f, g] f hd
  rw [bigSep_fin_two, hc] at e
  refine (show _ ⊢ _ from e).trans ?_
  iintro ⟨%h, -, H⟩
  iexists h
  iexact H

theorem slots_bufI : iprop(Any d L (inSlot 0) ∗ Any d L (inSlot 1)) ⊢ (iprop(∃ f, (thr d L).loc cc0_scoped0 ↦{fullShare} f) : sProp 𝕄) := by
  unfold Any
  rw [set_inSlot, set_inSlot]
  iintro ⟨⟨%f, H0⟩, ⟨%g, H1⟩⟩
  iapply (slots_join ((thr d L).loc cc0_scoped0) (fun k => slotSet k) slots_disjoint slots_cover f g) $$ [H0 H1]
  isplitl [H0]; · iexact H0
  iexact H1

theorem slots_bufO : iprop(Any d L (outSlot 0) ∗ Any d L (outSlot 1)) ⊢ (iprop(∃ f, (thr d L).loc cc0_scoped2 ↦{fullShare} f) : sProp 𝕄) := by
  unfold Any
  rw [set_outSlot, set_outSlot]
  iintro ⟨⟨%f, H0⟩, ⟨%g, H1⟩⟩
  iapply (slots_join ((thr d L).loc cc0_scoped2) (fun k => slotSet k) slots_disjoint slots_cover f g) $$ [H0 H1]
  isplitl [H0]; · iexact H0
  iexact H1

end Slots

/-! ## The arrays and their blocks -/

/-- The transposed keys and the transposed result in HBM. -/
abbrev xLoc (d : Dev nD) : Loc nD τ sig := (SparseCore.T d).loc main_v0
abbrev oLoc (d : Dev nD) : Loc nD τ sig := (SparseCore.T d).loc main_v1

/-- The five blocks of tile `L`, of the transposed keys or of the transposed result, holding the words of `f`. -/
def xTile (d : Dev nD) (L : grid0.Coords) (f : Buf (Elt F) (xLoc d)) : sProp 𝕄 :=
  bigSep (Finset.univ : Finset (Fin 5)) fun r => xLoc d ↦[blkSet L r]{fullShare} f
def oTile (d : Dev nD) (L : grid0.Coords) (f : Buf (Elt F) (oLoc d)) : sProp 𝕄 :=
  bigSep (Finset.univ : Finset (Fin 5)) fun r => oLoc d ↦[blkSet L r]{fullShare} f

/-- The kernel's result from the words `X`, both transposed: each word clamped. -/
abbrev clampAll (X : S200x16384.Idx → BitVec 32) : S200x16384.Idx → BitVec 32 := fun i => clampW (X i)

section Arrays

variable (d : Dev nD)

theorem xPts_tiles (f : Buf (Elt F) (xLoc d)) : (xLoc d ↦{fullShare} f : sProp 𝕄)
    = bigSep Finset.univ fun c : Fin (grid0.bound 0) => bigSep Finset.univ fun s : Fin (grid0.bound 1) => xTile d (tileAt c s) f := by
  rw [← blks_cover, pointsTo_biUnion Finset.univ (ℓ := xLoc d) (fun p : BlkIx => blkSet (tileAt p.1 p.2.1) p.2.2) blks_disjoint,
    ← Finset.univ_product_univ, SparseCore.bigSep_product]
  refine bigSep_congr fun c _ => ?_
  rw [← Finset.univ_product_univ, SparseCore.bigSep_product]
  rfl

theorem oPts_tiles (f : Buf (Elt F) (oLoc d)) : (oLoc d ↦{fullShare} f : sProp 𝕄)
    = bigSep Finset.univ fun c : Fin (grid0.bound 0) => bigSep Finset.univ fun s : Fin (grid0.bound 1) => oTile d (tileAt c s) f := by
  rw [← blks_cover, pointsTo_biUnion Finset.univ (ℓ := oLoc d) (fun p : BlkIx => blkSet (tileAt p.1 p.2.1) p.2.2) blks_disjoint,
    ← Finset.univ_product_univ, SparseCore.bigSep_product]
  refine bigSep_congr fun c _ => ?_
  rw [← Finset.univ_product_univ, SparseCore.bigSep_product]
  rfl

variable (L : grid0.Coords) (X : S200x16384.Idx → BitVec 32)

theorem xTile_all : (xTile d L X : sProp 𝕄) ⊢ XAll d L X := by
  unfold xTile XAll
  refine bigSep_mono fun r _ => show (xLoc d ↦[blkSet L r]{fullShare} X : sProp 𝕄) ⊢ Has d L (xBlk L r) (keys L X r) from ?_
  unfold Has
  rw [set_xBlk]
  iintro H
  iexists X
  isplitr; · ipureintro; rfl
  iexact H

theorem oTile_any (f : Buf (Elt F) (oLoc d)) : (oTile d L f : sProp 𝕄) ⊢ OAny d L := by
  unfold oTile OAny
  refine bigSep_mono fun r _ => show (oLoc d ↦[blkSet L r]{fullShare} f : sProp 𝕄) ⊢ Any d L (oBlk L r) from ?_
  unfold Any
  rw [set_oBlk]
  iintro H
  iexists f
  iexact H

/-- Contents that read the same through a view agree on the view's elements. -/
theorem eq_of_read {sp : Space} {s : Shape} {e : EltTy} (v : View sig .scVector sp s e) {f g : v.ty.Contents (Elt F)}
    (h : v.read (Elt F) f = v.read (Elt F) g) : ∀ i ∈ v.set, f i = g i := by
  intro i hi
  obtain ⟨x, -, rfl⟩ := Finset.mem_map.mp hi
  exact (cast_bijective (congrArg (Elt F) v.elt_eq)).injective (congrFun h x)

theorem all_xTile : (XAll d L X : sProp 𝕄) ⊢ xTile d L X := by
  unfold xTile XAll
  refine bigSep_mono fun r _ => show (Has d L (xBlk L r) (keys L X r) : sProp 𝕄) ⊢ xLoc d ↦[blkSet L r]{fullShare} X from ?_
  unfold Has
  iintro ⟨%f, %hf, H⟩
  ihave H' := (Entails.of_eq (pointsTo_congr (eq_of_read (xBlk L r).view (g := X) hf))) $$ H
  rw [set_xBlk]
  iexact H'

theorem all_oTile : (OAll d L X : sProp 𝕄) ⊢ oTile d L (clampAll X) := by
  unfold oTile OAll
  refine bigSep_mono fun r _ => show (Has d L (oBlk L r) (vals L X r) : sProp 𝕄) ⊢ oLoc d ↦[blkSet L r]{fullShare} clampAll X from ?_
  unfold Has
  iintro ⟨%f, %hf, H⟩
  ihave H' := (Entails.of_eq (pointsTo_congr (eq_of_read (oBlk L r).view (g := clampAll X) (hf.trans rfl)))) $$ H
  rw [set_oBlk]
  iexact H'

end Arrays

end Cert.Proof.Lookup

end
-- ==== Proof.Task.lean ====
/-
  One vector subcore's task as the launch asks for it: the subcore's scoped buffers and semaphores are the double buffers and
  their semaphores, and the call's operands are the tiles' blocks.
-/
module

public import proofs.«01_k».proof.Proof.Pieces

@[expose] public section

set_option maxRecDepth 16384

noncomputable section

namespace Cert.Proof.Lookup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable (m : (ℓ : Loc nD τ sig) → Buf (Elt F) ℓ)

/-- The keys transposed, which is what the call is handed. -/
def XT (d : Dev nD) : S200x16384.Idx → BitVec 32 :=
  transpose S200x16384 [1, 0] (m ((SparseCore.T d).loc main_arg0) : S16384x200.Idx → BitVec 32) transposes_S16384x200_S200x16384_1_0

/-! ## What the handshakes carry -/

/-- What a tile is handed: its blocks of the transposed keys, and its blocks of the result, whatever they hold. -/
def goT (d : Dev nD) (L : grid0.Coords) : sProp 𝕄 := iprop(xTile d L (XT m d) ∗ oTile d L (m (oLoc d)))
/-- What a tile hands back: the keys as they were, the result's blocks holding the keys clamped. -/
def tdT (d : Dev nD) (L : grid0.Coords) : sProp 𝕄 := iprop(xTile d L (XT m d) ∗ oTile d L (clampAll (XT m d)))

instance xTile_storable (d : Dev nD) (L : grid0.Coords) (f : Buf (Elt F) (xLoc d)) :
    BI.Storable (upEmb : UEmb _ 𝕄) (xTile d L f) := by unfold xTile; infer_instance
instance oTile_storable (d : Dev nD) (L : grid0.Coords) (f : Buf (Elt F) (oLoc d)) :
    BI.Storable (upEmb : UEmb _ 𝕄) (oTile d L f) := by unfold oTile; infer_instance
instance goT_storable (d : Dev nD) (L : grid0.Coords) : BI.Storable (upEmb : UEmb _ 𝕄) (goT m d L) := by unfold goT; infer_instance
instance tdT_storable (d : Dev nD) (L : grid0.Coords) : BI.Storable (upEmb : UEmb _ 𝕄) (tdT m d L) := by unfold tdT; infer_instance

/-- A core of the call and a task of it, as coordinates of the kernel's grid. -/
abbrev coreIx (c : Fin ((K (F := F)).nCore 0)) : Fin (grid0.bound 0) := c
abbrev taskIx (i : Fin ((K (F := F)).nSub 0)) : Fin (grid0.bound 1) := i

/-- The call hands each core its tiles' operands, and each core hands back its tiles' results. -/
def P : (K (F := F)).Pay (nD := nD) (Val := Elt F) (Name := ℕ) (U := UU) where
  st := fun q d c => match q with
    | 0 => bigSep (Finset.univ : Finset (Fin (grid0.bound 1))) fun s => goT m d (tileAt (coreIx (F := F) c) s)
  dn := fun q d c => match q with
    | 0 => bigSep (Finset.univ : Finset (Fin (grid0.bound 1))) fun s => tdT m d (tileAt (coreIx (F := F) c) s)
  go := fun q d c i => match q with | 0 => goT m d (tileAt (coreIx (F := F) c) (taskIx (F := F) i))
  td := fun q d c i => match q with | 0 => tdT m d (tileAt (coreIx (F := F) c) (taskIx (F := F) i))
  x := fun _ _ => iprop(emp)

instance P_storable : (P (F := F) m).IsStorable where
  st q d c := match q with
    | 0 => (inferInstance : BI.Storable (upEmb : UEmb _ 𝕄)
        (bigSep (Finset.univ : Finset (Fin (grid0.bound 1))) fun s => goT m d (tileAt (coreIx (F := F) c) s)))
  dn q d c := match q with
    | 0 => (inferInstance : BI.Storable (upEmb : UEmb _ 𝕄)
        (bigSep (Finset.univ : Finset (Fin (grid0.bound 1))) fun s => tdT m d (tileAt (coreIx (F := F) c) s)))
  go q d c i := match q with
    | 0 => (inferInstance : BI.Storable (upEmb : UEmb _ 𝕄) (goT m d (tileAt (coreIx (F := F) c) (taskIx (F := F) i))))
  td q d c i := match q with
    | 0 => (inferInstance : BI.Storable (upEmb : UEmb _ 𝕄) (tdT m d (tileAt (coreIx (F := F) c) (taskIx (F := F) i))))

theorem vecSplit : (K (F := F)).VecSplit' (P m) 0 := by
  intro d c
  show (bigSep (Finset.univ : Finset (Fin (grid0.bound 1))) fun s => goT m d (tileAt (coreIx (F := F) c) s)) ⊢ |={Set.univ}=> iprop(
    (bigSep (Finset.univ : Finset (Fin (grid0.bound 1))) fun s => goT m d (tileAt (coreIx (F := F) c) s))
    ∗ ((bigSep (Finset.univ : Finset (Fin (grid0.bound 1))) fun s => tdT m d (tileAt (coreIx (F := F) c) s))
      -∗ (bigSep (Finset.univ : Finset (Fin (grid0.bound 1))) fun s => tdT m d (tileAt (coreIx (F := F) c) s))))
  iintro H
  imodintro
  isplitl [H]; · iexact H
  iintro H
  iexact H

/-! ## The subcore's own buffers and semaphores -/

section Own

variable (d : Dev nD) (L : grid0.Coords)

/-- The four semaphores' cells of tile `L`: two for the fetches, two for the write-outs. -/
abbrev iCell (k : ℕ) : GSem nD τ sig := (thr d L, .dma (inSem k))
abbrev oCell (k : ℕ) : GSem nD τ sig := (thr d L, .dma (outSem k))

theorem iCell_own (k : ℕ) : iCell d L k ∈ ownCells (thr d L) := by
  refine mem_ownCells.mpr ⟨rfl, show (SemLoc.dma (inSem k) : SemLoc sig).isScoped .scVector = true from ?_⟩
  rw [show inSem k = inSem (k % 2) from semAt_congr cc0_scoped1 (semOff_congr (by omega)) _ _]
  rcases Nat.mod_two_eq_zero_or_one k with h | h <;> rw [h]
  · show (SemLoc.dma (inSem 0) : SemLoc sig).isScoped .scVector = true; decide
  · show (SemLoc.dma (inSem 1) : SemLoc sig).isScoped .scVector = true; decide

theorem oCell_own (k : ℕ) : oCell d L k ∈ ownCells (thr d L) := by
  refine mem_ownCells.mpr ⟨rfl, show (SemLoc.dma (outSem k) : SemLoc sig).isScoped .scVector = true from ?_⟩
  rw [show outSem k = outSem (k % 2) from semAt_congr cc0_scoped3 (semOff_congr (by omega)) _ _]
  rcases Nat.mod_two_eq_zero_or_one k with h | h <;> rw [h]
  · show (SemLoc.dma (outSem 0) : SemLoc sig).isScoped .scVector = true; decide
  · show (SemLoc.dma (outSem 1) : SemLoc sig).isScoped .scVector = true; decide

theorem cell_ne {a b : SemLoc sig} (h : a ≠ b) : ((thr d L, a) : GSem nD τ sig) ≠ (thr d L, b) := fun e => h (Prod.mk.inj e).2

/-- The cells of tile `L` other than the four. -/
abbrev restCells : Finset (GSem nD τ sig) :=
  ((((ownCells (thr d L)).erase (iCell d L 0)).erase (iCell d L 1)).erase (oCell d L 0)).erase (oCell d L 1)

theorem ownSems0_tile : (ownSems0 (thr d L) : sProp 𝕄)
    = iprop(semVal (iCell d L 0) 0 ∗ semVal (iCell d L 1) 0 ∗ semVal (oCell d L 0) 0 ∗ semVal (oCell d L 1) 0
        ∗ bigSep (restCells d L) fun g => semVal g 0) := by
  have n1 : iCell d L 1 ≠ iCell d L 0 := cell_ne d L (show (SemLoc.dma (inSem 1) : SemLoc sig) ≠ .dma (inSem 0) by decide)
  have n2 : oCell d L 0 ≠ iCell d L 0 := cell_ne d L (show (SemLoc.dma (outSem 0) : SemLoc sig) ≠ .dma (inSem 0) by decide)
  have n3 : oCell d L 0 ≠ iCell d L 1 := cell_ne d L (show (SemLoc.dma (outSem 0) : SemLoc sig) ≠ .dma (inSem 1) by decide)
  have n4 : oCell d L 1 ≠ iCell d L 0 := cell_ne d L (show (SemLoc.dma (outSem 1) : SemLoc sig) ≠ .dma (inSem 0) by decide)
  have n5 : oCell d L 1 ≠ iCell d L 1 := cell_ne d L (show (SemLoc.dma (outSem 1) : SemLoc sig) ≠ .dma (inSem 1) by decide)
  have n6 : oCell d L 1 ≠ oCell d L 0 := cell_ne d L (show (SemLoc.dma (outSem 1) : SemLoc sig) ≠ .dma (outSem 0) by decide)
  unfold SparseCore.Cfg.ownSems0
  rw [SparseCore.bigSep_erase' (iCell_own d L 0),
    SparseCore.bigSep_erase' (Finset.mem_erase.mpr ⟨n1, iCell_own d L 1⟩),
    SparseCore.bigSep_erase' (Finset.mem_erase.mpr ⟨n3, Finset.mem_erase.mpr ⟨n2, oCell_own d L 0⟩⟩),
    SparseCore.bigSep_erase' (Finset.mem_erase.mpr ⟨n6, Finset.mem_erase.mpr ⟨n5, Finset.mem_erase.mpr ⟨n4, oCell_own d L 1⟩⟩⟩)]

/-- The subcore's buffers other than the two double buffers. -/
abbrev restRefs : Finset (DevRef τ sig) :=
  ((ownRefs (τ := τ) (.scVector (cV L) (jV L))).erase ((Proc.scVector (cV L) (jV L)).devRef cc0_scoped0)).erase
    ((Proc.scVector (cV L) (jV L)).devRef cc0_scoped2)

theorem ownBufs_tile : (ownBufs (thr d L) : sProp 𝕄)
    = iprop((∃ f, (thr d L).loc cc0_scoped0 ↦{fullShare} f) ∗ (∃ f, (thr d L).loc cc0_scoped2 ↦{fullShare} f)
        ∗ bigSep (restRefs L) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scoped0) rfl)).trans ?_
  rw [SparseCore.bigSep_erase' (Finset.mem_erase.mpr
    ⟨fun e => absurd (Proc.devRef_injective _ e) (show (cc0_scoped2 : Ref sig .scVector) ≠ cc0_scoped0 by decide),
      SparseCore.Cfg.mem_ownRefs_of_owner (p := Proc.scVector (cV L) (jV L)) (b := (Proc.scVector (cV L) (jV L)).devRef cc0_scoped2) rfl⟩)]

end Own

/-! ## The task -/

variable [FloatOps F]

/-- What the body leaves, as the launch wants it back. -/
theorem tile_back (d : Dev nD) (L : grid0.Coords) (O : CellTallies nD τ sig (HIx 1)) (W : Waits sig (HIx 1)) :
    (iprop(((Any d L (inSlot 0) ∗ semVal (thr d L, .dma (inSem 0)) 0) ∗ (Any d L (inSlot 1) ∗ semVal (thr d L, .dma (inSem 1)) 0)
        ∗ (Any d L (outSlot 0) ∗ semVal (thr d L, .dma (outSem 0)) 0) ∗ (Any d L (outSlot 1) ∗ semVal (thr d L, .dma (outSem 1)) 0)
        ∗ XAll d L (XT m d) ∗ OAll d L (XT m d)
        ∗ ∃ W' : Waits sig (HIx 1), ⌜∀ p ∈ W', p ∈ W ∨ p.2 = none ∨ p.2 = some (0 : Fin 1)⌝ ∗ owes (thr d L) O W')
      ∗ (bigSep (restRefs L) fun b => iprop(∃ f, ((d, b) : Loc nD τ sig) ↦{fullShare} f)) ∗ bigSep (restCells d L) fun g => semVal g 0) : sProp 𝕄)
    ⊢ iprop((xTile d L (XT m d) ∗ oTile d L (clampAll (XT m d)))
        ∗ ((∃ f, (thr d L).loc cc0_scoped0 ↦{fullShare} f) ∗ (∃ f, (thr d L).loc cc0_scoped2 ↦{fullShare} f)
          ∗ bigSep (restRefs L) fun b => iprop(∃ f, ((d, b) : Loc nD τ sig) ↦{fullShare} f))
        ∗ (semVal (iCell d L 0) 0 ∗ semVal (iCell d L 1) 0 ∗ semVal (oCell d L 0) 0 ∗ semVal (oCell d L 1) 0
          ∗ bigSep (restCells d L) fun g => semVal g 0)
        ∗ ∃ W', ⌜∀ p ∈ W', p ∈ W ∨ p.2 = none ∨ p.2 = some (0 : Fin 1)⌝ ∗ owes (thr d L) O W') := by
  iintro ⟨⟨⟨HI0, Hi0⟩, ⟨HI1, Hi1⟩, ⟨HO0, Ho0⟩, ⟨HO1, Ho1⟩, Hx, Ho, HW⟩, Hbufs, Hsems⟩
  isplitl [Hx Ho]
  · isplitl [Hx]
    · iapply (all_xTile d L (XT m d)) $$ Hx
    iapply (all_oTile d L (XT m d)) $$ Ho
  isplitl [HI0 HI1 HO0 HO1 Hbufs]
  · isplitl [HI0 HI1]
    · iapply (slots_bufI d L) $$ [HI0 HI1]
      isplitl [HI0] <;> iassumption
    isplitl [HO0 HO1]
    · iapply (slots_bufO d L) $$ [HO0 HO1]
      isplitl [HO0] <;> iassumption
    iexact Hbufs
  isplitl [Hi0 Hi1 Ho0 Ho1 Hsems]
  · isplitl [Hi0]; · iexact Hi0
    isplitl [Hi1]; · iexact Hi1
    isplitl [Ho0]; · iexact Ho0
    isplitl [Ho1]; · iexact Ho1
    iexact Hsems
  iexact HW

/-- The task of tile `L`: from its blocks, its buffers and its semaphores at zero, the kernel's body runs to the end and gives
    them back, the blocks of the result holding the keys clamped. -/
theorem tile_body (d : Dev nD) (L : grid0.Coords) (hF : (K (F := F)).Facts) (O : CellTallies nD τ sig (HIx 1)) (W : Waits sig (HIx 1))
    (hO : ∀ g, O g none = 0) :
    iprop(levAts (K (F := F)).L (K (F := F)).lev ∗ emp ∗ goT m d L ∗ scopedBufs (thr d L) ∗ scopedSems0 (thr d L) ∗ owes (thr d L) O W)
      ⊢ wp frame (wpE (defs₀ (F := F)) 𝒱₀ (thr d L) none) Set.univ
          (cc0_lookup L xV (Memref.isWhole_whole _) oV (Memref.isWhole_whole _) bufI (Memref.isWhole_whole _) cc0_scoped1 bufO
            (Memref.isWhole_whole _) cc0_scoped3)
          fun _ => iprop(tdT m d L ∗ scopedBufs (thr d L) ∗ scopedSems0 (thr d L)
            ∗ ∃ W', ⌜∀ p ∈ W', p ∈ W ∨ p.2 = none ∨ p.2 = some (0 : Fin 1)⌝ ∗ owes (thr d L) O W') := by
  rw [(K (F := F)).scopedBufs_V hF d (cV L) (jV L), SparseCore.Cfg.scopedSems0_V (Val := Elt F) d (cV L) (jV L), ownSems0_tile, ownBufs_tile]
  have run := tile_run (F := F) d L (XT m d) O W
  unfold goT tdT
  unfold InFree OutFree Owe at run
  iintro ⟨#Hlv, -, ⟨Hx, Ho⟩, ⟨HbI, HbO, Hbufs⟩, ⟨Hi0, Hi1, Ho0, Ho1, Hsems⟩, HO⟩
  ihave Hmw := (show levAts (K (F := F)).L (K (F := F)).lev ⊢ Transfers.MayWaits (thr d L) (none : HIx 1) O from
    (K (F := F)).mayWaits_none (thr := thr d L) hO) $$ Hlv
  ihave HI := (bufI_slots d L) $$ HbI
  ihave HOo := (bufO_slots d L) $$ HbO
  ihave Hx' := (xTile_all d L (XT m d)) $$ Hx
  ihave Ho' := (oTile_any d L (m (oLoc d))) $$ Ho
  icases HI with ⟨HI0, HI1⟩
  icases HOo with ⟨HO0, HO1⟩
  ihave Hwp := run $$ [Hi0 Hi1 Ho0 Ho1 HO Hx' Ho' HI0 HI1 HO0 HO1]
  · isplitr; · iexact Hmw
    isplitl [HI0 Hi0]
    · isplitl [HI0] <;> iassumption
    isplitl [HI1 Hi1]
    · isplitl [HI1] <;> iassumption
    isplitl [HO0 Ho0]
    · isplitl [HO0] <;> iassumption
    isplitl [HO1 Ho1]
    · isplitl [HO1] <;> iassumption
    isplitl [Hx']; · iexact Hx'
    isplitl [Ho']; · iexact Ho'
    iexists W
    isplitr; · ipureintro; exact fun p hp => .inl hp
    iexact HO
  ihave Hall := (wp_frame_r frame (wpE (defs₀ (F := F)) 𝒱₀ (thr d L) none) Set.univ (R := iprop(
      (bigSep (restRefs L) fun b => iprop(∃ f, ((d, b) : Loc nD τ sig) ↦{fullShare} f)) ∗ bigSep (restCells d L) fun g => semVal g 0))) $$ [Hwp Hbufs Hsems]
  · isplitl [Hwp]; · iexact Hwp
    isplitl [Hbufs]; · iexact Hbufs
    iexact Hsems
  iapply (wp_mono frame (wpE (defs₀ (F := F)) 𝒱₀ (thr d L) none) Set.univ (fun _ => tile_back m d L O W)) $$ Hall

/-- The body of the call on core `c` and subcore `s`, as the launch's table gives it. -/
theorem defs₀_vector (c : Fin τ.nSC) (s : Fin τ.nSub) :
    defs₀ (F := F) (.scVector c s) 0 ()
      = SparseCore.onTile hcore0 hsub0 (fun c s => cc0_lookup (tileAt c s) xV (Memref.isWhole_whole _) oV (Memref.isWhole_whole _)
          bufI (Memref.isWhole_whole _) cc0_scoped1 bufO (Memref.isWhole_whole _) cc0_scoped3) ⟨⟩ c s := rfl

theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]
  simp only [SparseCore.onTile, hci, and_self, ↓reduceDIte]
  exact tile_body m d (tileAt ⟨_, hci.1⟩ ⟨_, hci.2⟩) hF O W hO

end Cert.Proof.Lookup

end
-- ==== Proof.Launch.lean ====
/-
  The whole program's run: the keys transposed on the TensorCore, the SparseCore call on all tiles, its result transposed back;
  and what the final memory holds.
-/
module

public import proofs.«01_k».proof.Proof.Task

@[expose] public section

set_option maxRecDepth 16384

noncomputable section

namespace Cert.Proof.Lookup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open StableHlo

variable (m : (ℓ : Loc nD τ sig) → Buf (Elt F) ℓ) (ρ : Dev nD → PrngReg)

/-! ## The launch element: the handshakes' rounds, and nothing of the kernel's own -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have hx : (bigSep Finset.univ fun thr : Thread nD τ => bigSep Finset.univ fun q : Fin 1 => (P (F := F) m).x q thr)
      = (iprop(emp) : sProp 𝕄) :=
    (bigSep_congr fun _ _ => bigSep_univ_of_subsingleton (0 : Fin 1)).trans (bigSep_emp_const _)
  have hd : (bigSep Finset.univ fun _ : Dev nD => iprop(emp)) = (iprop(emp) : sProp 𝕄) := bigSep_emp_const _
  rw [hx, hd]
  unfold u₀
  iintro Hu
  ihave H := (ownU_pair (initOf (K (F := F)).hsCells (K (F := F)).hsToks) (1 : Counters)) $$ Hu
  icases H with ⟨HH, -⟩
  imodintro
  isplitl [HH]; · iexact HH
  isplitr <;> iempintro

/-! ## The TensorCore's arrays -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev x' : DevRef τ sig := Proc.devRef .tc (main_v0 : Ref sig .tc)
abbrev o' : DevRef τ sig := Proc.devRef .tc (main_v1 : Ref sig .tc)
abbrev r' : DevRef τ sig := Proc.devRef .tc (main_v2 : Ref sig .tc)

abbrev S6 : Finset (DevRef τ sig) := {a0', a1', a2', x', o', r'}

/-- The six arrays, each held whole at the contents that `W` gives it. -/
def six (d : Dev nD) (W : Valuation τ sig (Elt F)) : sProp 𝕄 :=
  iprop(((SparseCore.T d).loc main_arg0 ↦{fullShare} W a0') ∗ ((SparseCore.T d).loc main_arg1 ↦{fullShare} W a1')
    ∗ ((SparseCore.T d).loc main_arg2 ↦{fullShare} W a2') ∗ (xLoc d ↦{fullShare} W x') ∗ (oLoc d ↦{fullShare} W o')
    ∗ ((SparseCore.T d).loc main_v2 ↦{fullShare} W r'))

theorem held_six (d : Dev nD) (W : Valuation τ sig (Elt F)) : (held (SparseCore.T d) S6 W : sProp 𝕄) = six d W := by
  unfold held S6 six
  rw [SparseCore.bigSep_insert' (by decide), SparseCore.bigSep_insert' (by decide), SparseCore.bigSep_insert' (by decide),
    SparseCore.bigSep_insert' (by decide), SparseCore.bigSep_insert' (by decide), bigSep_singleton]

/-- The contents at launch, as a valuation of the device's arrays. -/
def V0 (d : Dev nD) : Valuation τ sig (Elt F) := fun b => m (d, b)

theorem unscoped_held (d : Dev nD) : (unscopedBufs d (fun b => m ((SparseCore.T d).loc b)) : sProp 𝕄) = held (SparseCore.T d) S6 (V0 m d) := by
  rw [held_six]
  unfold unscopedBufs six
  rw [show (Finset.univ.filter fun b : Ref sig .tc => ¬ b.isScoped) = {main_arg0, main_arg1, main_arg2, main_v0, main_v1, main_v2} by decide,
    SparseCore.bigSep_insert' (by decide), SparseCore.bigSep_insert' (by decide), SparseCore.bigSep_insert' (by decide),
    SparseCore.bigSep_insert' (by decide), SparseCore.bigSep_insert' (by decide), bigSep_singleton]
  rfl

/-- The two transposes: of the keys, and of the call's result. -/
abbrev opIn : HloOp τ sig (Elt F) := StableHlo.unary main_arg0 main_v0 ((transpose S200x16384 [1, 0] · transposes_S16384x200_S200x16384_1_0) : (⟨S16384x200, .i32⟩ : BufTy).Contents (Elt F) → (⟨S200x16384, .i32⟩ : BufTy).Contents (Elt F))
abbrev opOut : HloOp τ sig (Elt F) := StableHlo.unary main_v1 main_v2 ((transpose S16384x200 [1, 0] · transposes_S200x16384_S16384x200_1_0) : (⟨S200x16384, .i32⟩ : BufTy).Contents (Elt F) → (⟨S16384x200, .i32⟩ : BufTy).Contents (Elt F))

theorem opIn_bufs : (opIn (F := F)).bufs ⊆ S6 := show ({a0', x'} : Finset (DevRef τ sig)) ⊆ S6 by decide
theorem opOut_bufs : (opOut (F := F)).bufs ⊆ S6 := show ({o', r'} : Finset (DevRef τ sig)) ⊆ S6 by decide

/-- Before the call, after it, and at the end. -/
def V1 (d : Dev nD) : Valuation τ sig (Elt F) := (opIn (F := F)).result (V0 m d)
def V2 (d : Dev nD) : Valuation τ sig (Elt F) := Function.update (V1 m d) o' (clampAll (XT m d))
def V3 (d : Dev nD) : Valuation τ sig (Elt F) := (opOut (F := F)).result (V2 m d)

/-- The program's result: each key clamped. -/
def Rv (d : Dev nD) : S16384x200.Idx → BitVec 32 := fun i => clampW ((m ((SparseCore.T d).loc main_arg0) : S16384x200.Idx → BitVec 32) i)

theorem V1_x (d : Dev nD) : V1 m d x' = XT m d := StableHlo.unary_result _ _ _ _ _ _
theorem V1_of_ne (d : Dev nD) {b : DevRef τ sig} (h : b ∉ ({x'} : Finset (DevRef τ sig))) : V1 m d b = m (d, b) :=
  (opIn (F := F)).result_of_not_mem _ h
theorem V2_of_ne (d : Dev nD) {b : DevRef τ sig} (h : b ≠ o') : V2 m d b = V1 m d b := Function.update_of_ne h _ _
theorem V2_o (d : Dev nD) : V2 m d o' = clampAll (XT m d) := Function.update_self _ _ _
theorem V3_of_ne (d : Dev nD) {b : DevRef τ sig} (h : b ∉ ({r'} : Finset (DevRef τ sig))) : V3 m d b = V2 m d b :=
  (opOut (F := F)).result_of_not_mem _ h

/-- Transposing, clamping and transposing back is clamping. -/
theorem V3_r (d : Dev nD) : V3 m d r' = Rv m d := by
  refine (StableHlo.unary_result _ _ _ _ _ _).trans ?_
  rw [V2_o]
  funext i
  refine congrArg (fun j => clampW ((m ((SparseCore.T d).loc main_arg0) : S16384x200.Idx → BitVec 32) j)) (?_ :
    transposes_S16384x200_S200x16384_1_0.src (transposes_S200x16384_S16384x200_1_0.src i) = i)
  funext a
  match a with
  | 0 => exact Fin.ext rfl
  | 1 => exact Fin.ext rfl

/-! ## What the call takes and gives back -/

theorem st_eq (d : Dev nD) : (bigSep Finset.univ fun c : Fin ((K (F := F)).nCore 0) => (P m).st 0 d c)
    = (iprop((xLoc d ↦{fullShare} XT m d) ∗ (oLoc d ↦{fullShare} m (oLoc d))) : sProp 𝕄) := by
  rw [xPts_tiles, oPts_tiles, ← bigSep_sep']
  refine bigSep_congr fun c _ => ?_
  rw [← bigSep_sep']
  rfl

theorem dn_eq (d : Dev nD) : (bigSep Finset.univ fun c : Fin ((K (F := F)).nCore 0) => (P m).dn 0 d c)
    = (iprop((xLoc d ↦{fullShare} XT m d) ∗ (oLoc d ↦{fullShare} clampAll (XT m d))) : sProp 𝕄) := by
  rw [xPts_tiles, oPts_tiles, ← bigSep_sep']
  refine bigSep_congr fun c _ => ?_
  rw [← bigSep_sep']
  rfl

/-- The six arrays before the call, and after it. -/
theorem six_V1 (d : Dev nD) : (six d (V1 m d) : sProp 𝕄)
    = iprop(((SparseCore.T d).loc main_arg0 ↦{fullShare} V1 m d a0') ∗ ((SparseCore.T d).loc main_arg1 ↦{fullShare} V1 m d a1')
      ∗ ((SparseCore.T d).loc main_arg2 ↦{fullShare} V1 m d a2') ∗ (xLoc d ↦{fullShare} XT m d) ∗ (oLoc d ↦{fullShare} m (oLoc d))
      ∗ ((SparseCore.T d).loc main_v2 ↦{fullShare} V1 m d r')) := by
  unfold six
  rw [V1_x, V1_of_ne m d (b := o') (by decide)]

theorem six_V2 (d : Dev nD) : (six d (V2 m d) : sProp 𝕄)
    = iprop(((SparseCore.T d).loc main_arg0 ↦{fullShare} V1 m d a0') ∗ ((SparseCore.T d).loc main_arg1 ↦{fullShare} V1 m d a1')
      ∗ ((SparseCore.T d).loc main_arg2 ↦{fullShare} V1 m d a2') ∗ (xLoc d ↦{fullShare} XT m d) ∗ (oLoc d ↦{fullShare} clampAll (XT m d))
      ∗ ((SparseCore.T d).loc main_v2 ↦{fullShare} V1 m d r')) := by
  unfold six
  rw [V2_o, V2_of_ne m d (b := a0') (by decide), V2_of_ne m d (b := a1') (by decide), V2_of_ne m d (b := a2') (by decide),
    V2_of_ne m d (b := x') (by decide), V2_of_ne m d (b := r') (by decide), V1_x]

/-- What the claims read: the arguments at their launch contents, the result. -/
def FIN (d : Dev nD) : sProp 𝕄 :=
  iprop(((SparseCore.T d).loc main_arg0 ↦{fullShare} m ((SparseCore.T d).loc main_arg0))
    ∗ ((SparseCore.T d).loc main_arg1 ↦{fullShare} m ((SparseCore.T d).loc main_arg1))
    ∗ ((SparseCore.T d).loc main_arg2 ↦{fullShare} m ((SparseCore.T d).loc main_arg2))
    ∗ ((SparseCore.T d).loc main_v2 ↦{fullShare} Rv m d))

theorem six_V3 (d : Dev nD) : (six d (V3 m d) : sProp 𝕄) ⊢ FIN m d := by
  unfold six FIN
  rw [V3_r, V3_of_ne m d (b := a0') (by decide), V3_of_ne m d (b := a1') (by decide), V3_of_ne m d (b := a2') (by decide),
    V2_of_ne m d (b := a0') (by decide), V2_of_ne m d (b := a1') (by decide), V2_of_ne m d (b := a2') (by decide),
    V1_of_ne m d (b := a0') (by decide), V1_of_ne m d (b := a1') (by decide), V1_of_ne m d (b := a2') (by decide)]
  iintro ⟨H0, H1, H2, -, -, Hr⟩
  isplitl [H0]; · iexact H0
  isplitl [H1]; · iexact H1
  isplitl [H2]; · iexact H2
  iexact Hr

/-! ## The TensorCore's program -/

variable [FloatOps F]

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opIn) (S := S6) opIn_bufs (V := V0 m d)) $$ [Hb Hheld]
  · isplitl [Hb] <;> iassumption
  iintro ⟨Hb, Hheld⟩
  rw [wp_ret]; imodintro
  ihave Hh := (Entails.of_eq (show (held (SparseCore.T d) S6 ((opIn (F := F)).result (V0 m d)) : sProp 𝕄) = _ from
    (held_six d (V1 m d)).trans (six_V1 m d))) $$ Hheld
  icases Hh with ⟨H0, H1, H2, Hx, Ho, Hr⟩
  iapply ((K (F := F)).wp_run (D (F := F)) 𝒱 (EH := EH) (P := P m) κ d 0) $$ [Hst Hx Ho Hb H0 H1 H2 Hr Hts]
  isplitr; · iexact Hctx
  isplitl [Hst]; · iexact Hst
  isplitl [Hx Ho]
  · rw [st_eq]
    isplitl [Hx]; · iexact Hx
    iexact Ho
  iintro ⟨Hst, Hdn⟩
  ihave Hdn' := (Entails.of_eq (dn_eq m d)) $$ Hdn
  icases Hdn' with ⟨Hx, Ho⟩
  iapply (wp_hlo_within 𝒱 (SparseCore.T d) none Set.univ (op := opOut) (S := S6) opOut_bufs (V := V2 m d)) $$ [Hb H0 H1 H2 Hx Ho Hr]
  · isplitl [Hb]; · iexact Hb
    rw [held_six, six_V2]
    isplitl [H0]; · iexact H0
    isplitl [H1]; · iexact H1
    isplitl [H2]; · iexact H2
    isplitl [Hx]; · iexact Hx
    isplitl [Ho]; · iexact Ho
    iexact Hr
  iintro ⟨Hb, Hheld⟩
  ihave Hf := (show (held (SparseCore.T d) S6 ((opOut (F := F)).result (V2 m d)) : sProp 𝕄) ⊢ FIN m d from
    (Entails.of_eq (held_six d (V3 m d))).trans (six_V3 m d)) $$ Hheld
  rw [wp_ret]; imodintro; imodintro
  isplitl [Hst]; · iexact Hst
  isplitl [Hf]; · iexact Hf
  isplitl [Hb] <;> iassumption

/-! ## The run -/

/-- On device `d` the three arguments are as at launch and the result array holds the keys clamped. -/
def fq (d : Dev nD) (s' : Phys nD τ sig (Elt F)) : Prop :=
  s'.mem.mem ((SparseCore.T d).loc main_arg0) = m ((SparseCore.T d).loc main_arg0)
    ∧ s'.mem.mem ((SparseCore.T d).loc main_arg1) = m ((SparseCore.T d).loc main_arg1)
    ∧ s'.mem.mem ((SparseCore.T d).loc main_arg2) = m ((SparseCore.T d).loc main_arg2)
    ∧ s'.mem.mem ((SparseCore.T d).loc main_v2) = Rv m d

/-- An array held whole is what the memory holds. -/
theorem mem_of_held {ℓ : Loc nD τ sig} {f : Buf (Elt F) ℓ} (s' : Phys nD τ sig (Elt F)) :
    iprop(SI s' ∗ (ℓ ↦{fullShare} f)) ⊢ (iprop(⌜s'.mem.mem ℓ = f⌝ ∗ SI s') : sProp 𝕄) := by
  iintro H
  ihave H' := (persistent_entails_right (SI_pointsTo_agree (st := s') (ℓ := ℓ) (I := Finset.univ) (q := fullShare) (f := f))) $$ H
  icases H' with ⟨%h, HSI, -⟩
  isplitr; · ipureintro; exact funext fun i => h i (Finset.mem_univ i)
  iexact HSI

theorem hfin (d : Dev nD) (s' : Phys nD τ sig (Elt F)) : iprop(FIN m d ∗ SI s') ⊢ (⌜fq m d s'⌝ : sProp 𝕄) := by
  unfold FIN
  iintro ⟨⟨H0, H1, H2, Hr⟩, HSI⟩
  ihave H := (mem_of_held s') $$ [HSI H0]
  · isplitl [HSI] <;> iassumption
  icases H with ⟨%e0, HSI⟩
  ihave H := (mem_of_held s') $$ [HSI H1]
  · isplitl [HSI] <;> iassumption
  icases H with ⟨%e1, HSI⟩
  ihave H := (mem_of_held s') $$ [HSI H2]
  · isplitl [HSI] <;> iassumption
  icases H with ⟨%e2, HSI⟩
  ihave H := (mem_of_held s') $$ [HSI Hr]
  · isplitl [HSI] <;> iassumption
  icases H with ⟨%er, -⟩
  ipureintro
  exact ⟨e0, e1, e2, er⟩

/-- Every run of the program ends, nothing faulting: the arguments as at launch, the result the keys clamped, every semaphore
    counter at zero. -/
theorem run_main [∀ e, Nonempty (Elt F e)] : θ_run (Cert.KernelIdeal.defs (F := F)) (Cert.KernelIdeal.threads (F := F)) ⟨m, fun _ => 0, ρ⟩
    (fun r => (∀ d : Dev nD, r.2.mem ((SparseCore.T d).loc main_arg0) = m ((SparseCore.T d).loc main_arg0)
      ∧ r.2.mem ((SparseCore.T d).loc main_arg1) = m ((SparseCore.T d).loc main_arg1)
      ∧ r.2.mem ((SparseCore.T d).loc main_arg2) = m ((SparseCore.T d).loc main_arg2)
      ∧ r.2.mem ((SparseCore.T d).loc main_v2) = Rv m d) ∧ r.2.sem = fun _ => 0) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _ (fun _ h hz => ⟨h, hz⟩)

end Cert.Proof.Lookup

end
-- ==== Proof.RefValue.lean ====
/-
  What the reference computes when both of its tables hold 0, 1, …, 999: at every position the smaller of the key, read as an
  unsigned word, and 1000.

  The reference's result is one long term of tensor operations. It is first cut into named steps (`wrap1`, `take1`, …, `refOut`);
  then each step is read at the two tables: sorting an increasing table leaves it in place, taking a table at its own positions
  gives the table, counting the entries below a key gives the key cut off at 0 and 1000, and a look-up in the table of positions
  gives the position.
-/
module

public import proofs.«01_k».proof.Proof.Setup
public import proofs.«01_k».proof.Proof.Gen.ReferenceIdeal
public import proofs.«01_k».proof.Proof.Gen.ReferenceIdeal.Run
public import proofs.«01_k».proof.Proof.Gen.Pre_iota_table
public import Idealize.ShloMosaic.Lib.SortFacts
public import Idealize.ShloMosaic.Lib.IndicatorCount
public import Idealize.ShloMosaic.Lib.ReduceAll
public import Idealize.ShloMosaic.Lib.StableHlo.Predicate
public import Idealize.ShloMosaic.Lib.ValueIdxCore

@[expose] public section

set_option maxRecDepth 16384

noncomputable section

namespace Cert.Proof.Lookup.Ref

open Cert.ReferenceIdeal Cert.ReferenceIdeal.Gen
open Idealize.ShloMosaic Idealize.ShloMosaic.TcCoe

/-- The table 0, 1, …, 999. -/
abbrev iota : IVec S1000 32 := iotaInDim S1000 32 0

/-! ## The reference, in steps -/

section Steps

/-- A position below zero counts from the end of the table of 1000 (a list of 1000 positions). -/
def wrap1 (p : IVec S1000 32) : IVec S1000 32 :=
  select (cmpi .slt p (broadcastInDim S1000 ![] bcast_S_S1000 (constantI S_ 32 0#32)))
    (addi p (broadcastInDim S1000 ![] bcast_S_S1000 (constantI S_ 32 1000#32))) p

/-- A list of positions as a column. -/
def col1 (p : IVec S1000 32) : IVec S1000x1 32 := broadcastInDim S1000x1 ![0] bcast_S1000_S1000x1_0 p

/-- A table read at a list of 1000 positions, with a fill word wherever a position is outside the table. -/
def take1 (x p : IVec S1000 32) : IVec S1000 32 :=
  select
    (Host.reduce IntOp.andi
      (andi (cmpi .sge (col1 (wrap1 p)) (broadcastInDim S1000x1 ![] bcast_S_S1000x1 (constantI S_ 32 0#32)))
        (cmpi .sle (col1 (wrap1 p))
          (broadcastInDim S1000x1 ![0, 1] bcast_S1x1_S1000x1_0_1 (broadcastInDim S1x1 ![1] bcast_S1_S1x1_1 (constantI S1 32 999#32)))))
      (constantI S_ 1 1#1) reducesTo_S1000x1_S1000_d1 h_S_)
    (Host.gather gather_S1000_S1000x1_S1000_n_0_n_n_0_1_1 x (col1 (wrap1 p)))
    (broadcastInDim S1000 ![] bcast_S_S1000 (constantI S_ 32 2147483648#32))

/-- A position below zero counts from the end of the table of 1000 (an array of positions). -/
def wrap2 (p : IVec S16384x200 32) : IVec S16384x200 32 :=
  select (cmpi .slt p (broadcastInDim S16384x200 ![] bcast_S_S16384x200 (constantI S_ 32 0#32)))
    (addi p (broadcastInDim S16384x200 ![] bcast_S_S16384x200 (constantI S_ 32 1000#32))) p

/-- An array of positions with a last axis of one element. -/
def col2 (p : IVec S16384x200 32) : IVec S16384x200x1 32 :=
  broadcastInDim S16384x200x1 ![0, 1] bcast_S16384x200_S16384x200x1_0_1 p

/-- A table read at an array of positions, with a fill word wherever a position is outside the table. -/
def take2 (x : IVec S1000 32) (p : IVec S16384x200 32) : IVec S16384x200 32 :=
  select
    (Host.reduce IntOp.andi
      (andi (cmpi .sge (col2 (wrap2 p)) (broadcastInDim S16384x200x1 ![] bcast_S_S16384x200x1 (constantI S_ 32 0#32)))
        (cmpi .sle (col2 (wrap2 p))
          (broadcastInDim S16384x200x1 ![0, 1, 2] bcast_S1x1x1_S16384x200x1_0_1_2
            (broadcastInDim S1x1x1 ![2] bcast_S1_S1x1x1_2 (constantI S1 32 999#32)))))
      (constantI S_ 1 1#1) reducesTo_S16384x200x1_S16384x200_d2 h_S_)
    (Host.gather gather_S1000_S16384x200x1_S16384x200_n_0_n_n_0_2_1 x (col2 (wrap2 p)))
    (broadcastInDim S16384x200 ![] bcast_S_S16384x200 (constantI S_ 32 2147483648#32))

/-- The order in which the keys of the table increase. -/
def order (k : IVec S1000 32) : IVec S1000 32 := (Host.sort2 S1000 0 comparator_i32_i32_d0 k (iotaInDim S1000 32 0)).2

/-- Of a sorted table and every element of an array: the number of entries below the element. -/
def below (s : IVec S1000 32) (a : IVec S16384x200 32) : IVec S16384x200 32 :=
  Host.reduce IntOp.addi
    (extui 32
      (cmpi .slt
        (broadcastInDim S1000x16384x200 ![0, 1, 2] bcast_S1000x1x1_S1000x16384x200_0_1_2
          (broadcastInDim S1000x1x1 ![0] bcast_S1000_S1000x1x1_0 s))
        (broadcastInDim S1000x16384x200 ![0, 1, 2] bcast_S1x16384x200_S1000x16384x200_0_1_2
          (broadcastInDim S1x16384x200 ![1, 2] bcast_S16384x200_S1x16384x200_1_2 a))) natLt_1_32)
    (constantI S_ 32 0#32) reducesTo_S1000x16384x200_S16384x200_d0 h_S_

/-- An array cut off below 0 and above 999. -/
def clip (p : IVec S16384x200 32) : IVec S16384x200 32 :=
  minsi (broadcastInDim S16384x200 ![] bcast_S_S16384x200 (id (constantI S_ 32 999#32)))
    (maxsi (broadcastInDim S16384x200 ![] bcast_S_S16384x200 (id (constantI S_ 32 0#32))) p)

/-- The reference: sort the table by key, find each key's place, and return its value, or 1000 where the key is absent. -/
def refOut (a : IVec S16384x200 32) (k v : IVec S1000 32) : IVec S16384x200 32 :=
  select (cmpi .eq (take2 (take1 k (order k)) (clip (below (take1 k (order k)) a))) a)
    (take2 (take1 v (order k)) (clip (below (take1 k (order k)) a)))
    (broadcastInDim S16384x200 ![] bcast_S_S16384x200 (constantI S_ 32 1000#32))

end Steps

/-! ## Words -/

/-- A word below 1000 is the same number read signed. -/
theorem toInt_small {v : BitVec 32} (h : v.toNat < 1000) : v.toInt = (v.toNat : Int) :=
  BitVec.toInt_eq_toNat_of_lt (by omega)

/-- A number below 1000 as a word, read back unsigned. -/
theorem toNat_small {n : Nat} (h : n < 1000) : (BitVec.ofNat 32 n).toNat = n := by
  rw [BitVec.toNat_ofNat]
  exact Nat.mod_eq_of_lt (by omega)

/-- A number up to 1000 as a word, read back signed. -/
theorem toInt_upto {n : Nat} (h : n ≤ 1000) : (BitVec.ofNat 32 n).toInt = (n : Int) := by
  have e : (BitVec.ofNat 32 n).toNat = n := by
    rw [BitVec.toNat_ofNat]
    exact Nat.mod_eq_of_lt (by omega)
  rw [BitVec.toInt_eq_toNat_of_lt (by omega), e]

/-- The signed order of words is the order of the numbers. -/
theorem slt_iff (x y : BitVec 32) : x.slt y = decide (x.toInt < y.toInt) := rfl

/-- A word below 1000 does not count from the end: the wrapped position is the position. -/
theorem wrap_word {v : BitVec 32} (h : v.toNat < 1000) :
    Scalar.select (IntOp.cmpi .slt v 0#32) (IntOp.addi v 1000#32) v = v := by
  have e : IntOp.cmpi .slt v 0#32 = 0#1 := by
    show BitVec.ofBool (v.slt 0#32) = 0#1
    rw [slt_iff, toInt_small h, decide_eq_false (by simp)]
    rfl
  rw [e]
  rfl

/-- A word below 1000 lies inside the table. -/
theorem inside_word {v : BitVec 32} (h : v.toNat < 1000) :
    IntOp.andi (IntOp.cmpi .sge v 0#32) (IntOp.cmpi .sle v 999#32) = 1#1 := by
  have e1 : IntOp.cmpi .sge v 0#32 = 1#1 := by
    show BitVec.ofBool (decide ((0#32 : BitVec 32).toInt ≤ v.toInt)) = 1#1
    rw [toInt_small h, decide_eq_true (by simp)]
    rfl
  have e2 : IntOp.cmpi .sle v 999#32 = 1#1 := by
    show BitVec.ofBool (decide (v.toInt ≤ (999#32 : BitVec 32).toInt)) = 1#1
    rw [toInt_small h, toInt_upto (n := 999) (by omega), decide_eq_true (by omega)]
    rfl
  rw [e1, e2]
  rfl

/-! ## Reading a table at positions inside it -/

/-- Positions below 1000 are not changed by the wrapping. -/
theorem wrap1_eq {p : IVec S1000 32} (h : ∀ j, (p j).toNat < 1000) : wrap1 p = p := funext fun j => wrap_word (h j)

/-- Positions below 1000 are not changed by the wrapping. -/
theorem wrap2_eq {p : IVec S16384x200 32} (h : ∀ j, (p j).toNat < 1000) : wrap2 p = p := funext fun j => wrap_word (h j)

/-- A table taken at positions inside it: the entries at those positions. -/
theorem take1_apply (x : IVec S1000 32) {p : IVec S1000 32} (h : ∀ j, (p j).toNat < 1000) (k : Fin 1000) :
    take1 x p (Shape.Idx.ofFin k) = x (Shape.Idx.ofFin ⟨(p (Shape.Idx.ofFin k)).toNat, h _⟩) := by
  unfold take1
  rw [wrap1_eq h]
  have hm : Host.reduce IntOp.andi
      (andi (cmpi .sge (col1 p) (broadcastInDim S1000x1 ![] bcast_S_S1000x1 (constantI S_ 32 0#32)))
        (cmpi .sle (col1 p)
          (broadcastInDim S1000x1 ![0, 1] bcast_S1x1_S1000x1_0_1 (broadcastInDim S1x1 ![1] bcast_S1_S1x1_1 (constantI S1 32 999#32)))))
      (constantI S_ 1 1#1) reducesTo_S1000x1_S1000_d1 h_S_ (Shape.Idx.ofFin k) = 1#1 :=
    Host.reduce_andi_one _ _ _ _ _ rfl fun i => inside_word (h _)
  show Scalar.select (Host.reduce _ _ _ _ _ _) _ _ = _
  rw [hm]
  show Host.gather gather_S1000_S1000x1_S1000_n_0_n_n_0_1_1 x (col1 p) (Shape.Idx.ofFin k) = _
  rw [StableHlo.Predicate.gather_take gather_S1000_S1000x1_S1000_n_0_n_n_0_1_1 rfl rfl rfl rfl x (col1 p) k (by omega)]
  have hc : col1 p (StableHlo.Predicate.ixP k) = p (Shape.Idx.ofFin k) := by
    show p _ = p _
    congr 1
    funext a
    obtain rfl : a = 0 := Subsingleton.elim _ _
    rfl
  refine congrArg x (congrArg Shape.Idx.ofFin (Fin.ext ?_))
  show min (col1 p (StableHlo.Predicate.ixP k)).toInt.toNat 999 = (p (Shape.Idx.ofFin k)).toNat
  rw [hc, toInt_small (h _)]
  have := h (Shape.Idx.ofFin k)
  omega

/-- A table taken at an array of positions inside it: the entries at those positions. -/
theorem take2_apply (x : IVec S1000 32) {p : IVec S16384x200 32} (h : ∀ j, (p j).toNat < 1000) (j : S16384x200.Idx) :
    take2 x p j = x (Shape.Idx.ofFin ⟨(p j).toNat, h j⟩) := by
  unfold take2
  rw [wrap2_eq h]
  have hm : Host.reduce IntOp.andi
      (andi (cmpi .sge (col2 p) (broadcastInDim S16384x200x1 ![] bcast_S_S16384x200x1 (constantI S_ 32 0#32)))
        (cmpi .sle (col2 p)
          (broadcastInDim S16384x200x1 ![0, 1, 2] bcast_S1x1x1_S16384x200x1_0_1_2
            (broadcastInDim S1x1x1 ![2] bcast_S1_S1x1x1_2 (constantI S1 32 999#32)))))
      (constantI S_ 1 1#1) reducesTo_S16384x200x1_S16384x200_d2 h_S_ j = 1#1 :=
    Host.reduce_andi_one _ _ _ _ _ rfl fun i => inside_word (h _)
  show Scalar.select (Host.reduce _ _ _ _ _ _) _ _ = _
  rw [hm]
  show Host.gather gather_S1000_S16384x200x1_S16384x200_n_0_n_n_0_2_1 x (col2 p) j = _
  refine (ValueIdx.gather_take_apply (by omega) gather_S1000_S16384x200x1_S16384x200_n_0_n_n_0_2_1.wf x (col2 p) j).trans ?_
  have hc : col2 p (ValueIdx.takeIdx j) = p j := by
    refine congrArg p ?_
    funext a
    match a with
    | ⟨0, _⟩ => rfl
    | ⟨1, _⟩ => rfl
  refine congrArg x ?_
  funext a
  obtain rfl : a = 0 := Subsingleton.elim _ _
  refine Fin.ext ?_
  show min (col2 p (ValueIdx.takeIdx j)).toInt.toNat 999 = (p j).toNat
  rw [hc, toInt_small (h _)]
  have := h j
  omega

/-! ## The two tables -/

/-- An entry of the table of positions. -/
theorem iota_ofFin (k : Fin 1000) : iota (Shape.Idx.ofFin k) = BitVec.ofNat 32 k.val := rfl

/-- Every entry of the table of positions is a position. -/
theorem iota_small (j : S1000.Idx) : (iota j).toNat < 1000 := by
  rw [show iota j = BitVec.ofNat 32 (j 0).val from rfl, toNat_small (j 0).isLt]
  exact (j 0).isLt

/-- Taking a table at its own positions in order gives the table. -/
theorem take1_iota (x : IVec S1000 32) : take1 x iota = x := by
  funext j
  obtain ⟨k, rfl⟩ : ∃ k : Fin 1000, j = Shape.Idx.ofFin k := ⟨j 0, Shape.Idx.eq_ofFin j⟩
  rw [take1_apply x iota_small k]
  exact congrArg x (congrArg Shape.Idx.ofFin (Fin.ext (toNat_small k.isLt)))

/-- The table of positions read at positions inside it gives those positions. -/
theorem take2_iota {p : IVec S16384x200 32} (h : ∀ j, (p j).toNat < 1000) : take2 iota p = p := by
  funext j
  rw [take2_apply iota h j, iota_ofFin]
  exact BitVec.eq_of_toNat_eq (toNat_small (h j))

/-- Sorting the list of positions by their own order leaves it as it is. -/
theorem sortedFrom_lt {n : Nat} (k : Fin n) : sortedFrom (fun a b : Fin n => decide (a < b)) k = k := by
  have e : sortPositions n (fun a b : Fin n => decide (a < b)) = List.ofFn (Equiv.refl (Fin n)) :=
    sortPositions_of_perm (Equiv.refl (Fin n))
  unfold sortedFrom
  rw [List.get_of_eq e]
  simp

/-- Two positions compare as words the way they compare as numbers. -/
theorem slt_ofNat (a b : Fin 1000) :
    (BitVec.ofBool (BitVec.slt (BitVec.ofNat 32 a.val) (BitVec.ofNat 32 b.val)) == 1#1) = decide (a < b) := by
  rw [slt_iff, toInt_upto (by have := a.isLt; omega), toInt_upto (by have := b.isLt; omega)]
  by_cases hab : a < b
  · rw [decide_eq_true hab, decide_eq_true (by exact_mod_cast hab)]; rfl
  · rw [decide_eq_false hab, decide_eq_false (by intro h; exact hab (by exact_mod_cast h))]; rfl

/-- An increasing table is in order already. -/
theorem order_iota : order iota = iota := by
  unfold order
  rw [Host.sort2_eq_sortBy]
  funext j
  obtain ⟨k, rfl⟩ : ∃ k : Fin 1000, j = Shape.Idx.ofFin k := ⟨j 0, Shape.Idx.eq_ofFin j⟩
  refine (congrArg iota (Shape.Idx.along_rank1 (n := 1000) (Shape.Idx.ofFin k) _)).trans ?_
  refine congrArg (fun q => iota (Shape.Idx.ofFin q)) ?_
  refine Eq.trans (congrFun (congrArg sortedFrom ?_) k) (sortedFrom_lt k)
  funext a b
  have hi : ∀ q : Fin 1000, iota (Shape.Idx.along (Shape.Idx.ofFin k : S1000.Idx) (0 : Fin 1) q) = BitVec.ofNat 32 q.val := fun q =>
    (congrArg iota (Shape.Idx.along_rank1 (n := 1000) (Shape.Idx.ofFin k) q)).trans (iota_ofFin q)
  show (BitVec.ofBool (BitVec.slt (iota (Shape.Idx.along (Shape.Idx.ofFin k : S1000.Idx) (0 : Fin 1) a))
    (iota (Shape.Idx.along (Shape.Idx.ofFin k : S1000.Idx) (0 : Fin 1) b))) == 1#1) = _
  rw [hi a, hi b]
  exact slt_ofNat a b

/-- Among 0, 1, …, 999 the number of entries below a key: the key cut off at 0 and at 1000. -/
theorem below_iota (a : IVec S16384x200 32) (i : S16384x200.Idx) :
    below iota a i = BitVec.ofNat 32 (min 1000 (a i).toInt.toNat) := by
  unfold below
  have hR : S1000x16384x200.Reduces [0] S16384x200 := by decide
  rw [Host.reduce_eq_fold_single IntOp.addi _ _ _ hR h_S_ i]
  have he : (extui 32
      (cmpi .slt
        (broadcastInDim S1000x16384x200 ![0, 1, 2] bcast_S1000x1x1_S1000x16384x200_0_1_2
          (broadcastInDim S1000x1x1 ![0] bcast_S1000_S1000x1x1_0 iota))
        (broadcastInDim S1000x16384x200 ![0, 1, 2] bcast_S1x16384x200_S1000x16384x200_0_1_2
          (broadcastInDim S1x16384x200 ![1, 2] bcast_S16384x200_S1x16384x200_1_2 a))) natLt_1_32 ∘ hR.lift i)
      = fun k : Fin 1000 => (IntOp.cmpi .slt (BitVec.ofNat 32 k.val) (a i)).setWidth 32 := by
    funext k
    refine congrArg (fun x => BitVec.setWidth 32 (IntOp.cmpi .slt (BitVec.ofNat 32 k.val) x)) (congrArg a ?_)
    funext q
    match q with
    | ⟨0, _⟩ => rfl
    | ⟨1, _⟩ => rfl
  rw [he]
  refine (IndicatorCount.fold_addi_setWidth_eq_card (w := 32)
    (fun k : Fin 1000 => IntOp.cmpi .slt (BitVec.ofNat 32 k.val) (a i)) Finset.univ).trans ?_
  refine congrArg (BitVec.ofNat 32) ?_
  rw [← Fin.card_filter_val_lt]
  refine congrArg Finset.card (Finset.filter_congr fun k _ => ?_)
  show BitVec.ofBool (BitVec.slt (BitVec.ofNat 32 k.val) (a i)) = 1#1 ↔ _
  rw [slt_iff, toInt_upto (by have := k.isLt; omega)]
  by_cases hk : (k.val : Int) < (a i).toInt
  · rw [decide_eq_true hk]
    exact ⟨fun _ => by omega, fun _ => rfl⟩
  · rw [decide_eq_false hk]
    exact ⟨fun h => absurd h (by decide), fun h => absurd h (by omega)⟩

/-- A count cut off below 0 and above 999. -/
theorem clip_word {n : Nat} (h : n ≤ 1000) :
    IntOp.minsi 999#32 (IntOp.maxsi 0#32 (BitVec.ofNat 32 n)) = BitVec.ofNat 32 (min n 999) := by
  have e : IntOp.maxsi 0#32 (BitVec.ofNat 32 n) = BitVec.ofNat 32 n := by
    unfold IntOp.maxsi
    rw [slt_iff, toInt_upto h]
    by_cases hn : n = 0
    · subst hn; rfl
    · rw [decide_eq_false (by simp)]
      rfl
  rw [e]
  unfold IntOp.minsi
  rw [slt_iff, toInt_upto h, toInt_upto (n := 999) (by omega)]
  by_cases hn : n = 1000
  · subst hn; rfl
  · rw [decide_eq_false (by omega)]
    show BitVec.ofNat 32 n = _
    rw [Nat.min_eq_left (by omega)]

/-- The last choice: a key is found exactly when it is below 1000, and otherwise the answer is 1000. -/
theorem found_word (x : BitVec 32) :
    Scalar.select (IntOp.cmpi .eq (BitVec.ofNat 32 (min (min 1000 x.toInt.toNat) 999)) x)
      (BitVec.ofNat 32 (min (min 1000 x.toInt.toNat) 999)) 1000#32 = clampW x := by
  by_cases h : x.toNat < 1000
  · have e : BitVec.ofNat 32 (min (min 1000 x.toInt.toNat) 999) = x := by
      rw [toInt_small h]
      apply BitVec.eq_of_toNat_eq
      rw [toNat_small (by omega)]
      omega
    rw [e]
    have hu : x.ult 1000#32 = true := by
      simpa [BitVec.ult] using h
    show Scalar.select (BitVec.ofBool (x == x)) x _ = if x.ult 1000#32 then x else _
    rw [hu, beq_self_eq_true]
    rfl
  · have hne : BitVec.ofNat 32 (min (min 1000 x.toInt.toNat) 999) ≠ x := by
      intro e
      apply h
      rw [← e, toNat_small (by omega)]
      omega
    have hu : x.ult 1000#32 = false := by
      simpa [BitVec.ult] using h
    show Scalar.select (BitVec.ofBool (_ == x)) _ _ = if x.ult 1000#32 then x else _
    rw [hu, beq_false_of_ne hne]
    rfl

/-! ## The value -/

/-- With both tables 0, 1, …, 999 the reference returns at every position the smaller of the key and 1000. -/
theorem refOut_iota (a : IVec S16384x200 32) : refOut a iota iota = fun i => clampW (a i) := by
  unfold refOut
  rw [order_iota, take1_iota]
  have hc : clip (below iota a) = fun i => BitVec.ofNat 32 (min (min 1000 (a i).toInt.toNat) 999) := by
    funext i
    show IntOp.minsi 999#32 (IntOp.maxsi 0#32 (below iota a i)) = _
    rw [below_iota, clip_word (by omega)]
  have hs : ∀ i, (clip (below iota a) i).toNat < 1000 := by
    intro i
    rw [hc]
    show (BitVec.ofNat 32 _).toNat < 1000
    rw [toNat_small (by omega)]
    omega
  rw [take2_iota hs, hc]
  funext i
  exact found_word (a i)

variable {F : FTy → Type} [FloatOps F]

/-- The generated term of the reference's result is the steps above, put together. -/
theorem res_eq (m : (ℓ : Loc nD τ sig) → Buf (Elt F) ℓ) (c : Dev nD) :
    Value.res_main_v14 m c
      = refOut (m ((c.tc : Thread nD τ).loc main_arg0)) (m ((c.tc : Thread nD τ).loc main_arg1)) (m ((c.tc : Thread nD τ).loc main_arg2)) :=
  rfl

/-- What the precondition says: both tables are 0, 1, …, 999. -/
theorem tables_of_pre (a : IVec S16384x200 32) (k v : IVec S1000 32)
    (h : Cert.Pre_iota_table.fn (F := F) a k v = fun _ => 1#1) : k = iota ∧ v = iota := by
  have h0 := congrFun h (Shape.Idx.first h_S_)
  obtain ⟨hk, hv⟩ := IntOp.andi_eq_one.1 h0
  have hsub : Subsingleton S_.Idx := ⟨fun x y => funext fun q => q.elim0⟩
  have key : ∀ x y : BitVec 32, IntOp.cmpi .eq x y = 1#1 → x = y := by
    intro x y e
    by_contra hne
    have : IntOp.cmpi .eq x y = 0#1 := by
      show BitVec.ofBool (x == y) = 0#1
      rw [beq_false_of_ne hne]
      rfl
    rw [this] at e
    exact absurd e (by decide)
  exact ⟨funext fun i => key _ _ (Host.reduce_andi_all _ _ _ _ _ hk i),
    funext fun i => key _ _ (Host.reduce_andi_all _ _ _ _ _ hv i)⟩

end Cert.Proof.Lookup.Ref

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.Reference
public import proofs.«01_k».proof.Proof.Gen.ReferenceIdeal
public import proofs.«01_k».proof.Proof.Gen.Pre_iota_table
public import proofs.«01_k».proof.Proof.Gen.ReferenceIdeal.Run
public import proofs.«01_k».proof.Proof.Gen.Reference.Run
public import proofs.«01_k».proof.Proof.Launch
public import proofs.«01_k».proof.Proof.RefValue
public import Idealize.ShloMosaic.Adequacy
public import Idealize.ShloMosaic.Init

@[expose] public section

noncomputable section

namespace Cert.Proof

open Idealize.ShloMosaic Idealize.SL.Sem
open Cert.Proof.Lookup (Rv run_main clampW)

/-! ## The kernel and the reference run, and leave their arguments -/

/-- The kernel runs in the bit model from any memory: the run is the ideal program's, whose text is the same. -/
theorem frame_kernel : Cert.quiescent_Kernel := fun m ρ _ =>
  (θ_run Cert.KernelIdeal.defs _ _).mono (fun _ h => ⟨fun c => ⟨(h.1 c).1, (h.1 c).2.1, (h.1 c).2.2.1⟩, h.2⟩) (run_main (F := Bits) m ρ)

/-- The same from the memories whose tables hold 0, 1, …, 999. -/
theorem frame_kernel_pre : Cert.quiescent_Kernel_pre_iota_table := fun m ρ _ => frame_kernel m ρ trivial

/-- The kernel runs in the ideal model from any memory. -/
theorem frame_kernelIdeal : Cert.quiescent_KernelIdeal := fun m ρ _ =>
  (θ_run Cert.KernelIdeal.defs _ _).mono (fun _ h => ⟨fun c => ⟨(h.1 c).1, (h.1 c).2.1, (h.1 c).2.2.1⟩, h.2⟩) (run_main (F := Ideal) m ρ)

/-- The same from the memories whose tables hold 0, 1, …, 999. -/
theorem frame_kernelIdeal_pre : Cert.quiescent_KernelIdeal_pre_iota_table := fun m ρ _ => frame_kernelIdeal m ρ trivial

/-- The reference runs in the ideal model from any memory. It has no semaphores. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same from the memories whose tables hold 0, 1, …, 999. -/
theorem frame_referenceIdeal_pre : Cert.quiescent_ReferenceIdeal_pre_iota_table := fun m ρ _ => frame_referenceIdeal m ρ trivial

/-- The reference runs in the bit model. -/
theorem frame_reference : Cert.quiescent_Reference := fun m ρ _ =>
  (θ_run Cert.Reference.defs _ _).mono (fun r h => ⟨fun c => (h c).2, sem_eq_zero_of_no_sems (by decide) r.2⟩)
    (Cert.Reference.Value.run (F := Bits) m ρ)

/-! ## The results agree -/

section Value

variable {F : FTy → Type} [FloatOps F]

/-- From a memory of the reference whose arguments are the kernel's, with both tables 0, 1, …, 999, the reference's result is
    the kernel's. -/
theorem reference_value (m : (ℓ : Loc Cert.KernelIdeal.nD Cert.KernelIdeal.τ Cert.KernelIdeal.sig) → Buf (Elt F) ℓ)
    (m' : (ℓ : Loc Cert.ReferenceIdeal.nD Cert.ReferenceIdeal.τ Cert.ReferenceIdeal.sig) → Buf (Elt F) ℓ) (c : Dev Cert.KernelIdeal.nD)
    (hp : Cert.Pre_iota_table.fn (F := F)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) = fun _ => 1#1)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)) :
    Cert.ReferenceIdeal.Value.res_main_v14 m' c = Rv m c := by
  obtain ⟨hk, hv⟩ := Lookup.Ref.tables_of_pre (F := F) _ _ _ hp
  refine (Lookup.Ref.res_eq m' c).trans ?_
  refine (congr (congrArg₂ Lookup.Ref.refOut h0 (h1.trans hk)) (h2.trans hv)).trans ?_
  exact Lookup.Ref.refOut_iota _

end Value

/-- The result of the reference in the bit model is the same term of its arguments as in the ideal model. -/
theorem reference_term (m : (ℓ : Loc Cert.Reference.nD Cert.Reference.τ Cert.Reference.sig) → Buf (Elt Bits) ℓ) (c : Dev Cert.Reference.nD) :
    Cert.Reference.Value.res_main_v14 m c = Cert.ReferenceIdeal.Value.res_main_v14 (F := Bits) m c :=
  (show Cert.Reference.Value.res_main_v14 m c
      = Lookup.Ref.refOut (m ((c.tc : Thread Cert.Reference.nD Cert.Reference.τ).loc Cert.Reference.main_arg0))
        (m ((c.tc : Thread Cert.Reference.nD Cert.Reference.τ).loc Cert.Reference.main_arg1))
        (m ((c.tc : Thread Cert.Reference.nD Cert.Reference.τ).loc Cert.Reference.main_arg2)) from rfl).trans
    (Lookup.Ref.res_eq (F := Bits) m c).symm

/-- With both tables 0, 1, …, 999 the kernel returns the reference's words, bit for bit. -/
theorem bitexact : Cert.bitexact_Kernel_Reference_pre_iota_table := fun m ρ m' ρ' hp ha =>
  ⟨fun c => Rv (F := Bits) m c,
    (θ_run Cert.KernelIdeal.defs _ _).mono (fun _ h c => ⟨(h.1 c).2.2.2, (h.1 c).1, (h.1 c).2.1, (h.1 c).2.2.1⟩) (run_main (F := Bits) m ρ),
    (θ_run Cert.Reference.defs _ _).mono
      (fun _ h c => ⟨(h c).1.trans ((reference_term m' c).trans
        (reference_value (F := Bits) m m' c (hp c) (ha c).1 (ha c).2.1 (ha c).2.2)), (h c).2⟩)
      (Cert.Reference.Value.run (F := Bits) m' ρ')⟩

/-- With both tables 0, 1, …, 999 the kernel returns the reference's values in the ideal model. -/
theorem algebraic : Cert.algebraic_KernelIdeal_ReferenceIdeal_pre_iota_table := fun m ρ m' ρ' hp ha =>
  ⟨fun c => Rv (F := Ideal) m c,
    (θ_run Cert.KernelIdeal.defs _ _).mono (fun _ h c => ⟨(h.1 c).2.2.2, (h.1 c).1, (h.1 c).2.1, (h.1 c).2.2.1⟩) (run_main (F := Ideal) m ρ),
    (θ_run Cert.ReferenceIdeal.defs _ _).mono
      (fun _ h c => ⟨(h c).1.trans (reference_value (F := Ideal) m m' c (hp c) (ha c).1 (ha c).2.1 (ha c).2.2), (h c).2⟩)
      (Cert.ReferenceIdeal.Value.run (F := Ideal) m' ρ')⟩

/-- Everything that is claimed. -/
theorem claim : Cert.Claim :=
  ⟨Cert.Kernel.Gen.facts, Cert.KernelIdeal.Gen.facts, Cert.ReferenceIdeal.Gen.facts, Cert.Reference.Gen.facts, Cert.Pre_iota_table.Gen.facts,
    frame_kernel, frame_kernel_pre, frame_kernelIdeal, frame_kernelIdeal_pre, frame_referenceIdeal, frame_referenceIdeal_pre,
    frame_reference, trivial, bitexact, algebraic⟩

end Cert.Proof

end
